-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_front [hPre_front : Cert.Pre_front.Facts] (m : (ℓ : Loc Cert.KernelIdeal.nD Cert.KernelIdeal.τ Cert.KernelIdeal.sig) → Buf (Elt Ideal) ℓ) : Prop :=
  ∀ c : Dev Cert.KernelIdeal.nD,
    (Cert.Pre_front.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_front [hPre_front : Cert.Pre_front.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_front.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_front [hKernelIdeal : Cert.KernelIdeal.Facts] [hPre_front : Cert.Pre_front.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_front m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_front [hReferenceIdeal : Cert.ReferenceIdeal.Facts] [hPre_front : Cert.Pre_front.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_front m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_front [hKernelIdeal : Cert.KernelIdeal.Facts] [hReferenceIdeal : Cert.ReferenceIdeal.Facts] [hPre_front : Cert.Pre_front.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_front m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_front : Cert.Pre_front.Facts),
    quiescent_Kernel (hKernel := hKernel)
    ∧ quiescent_KernelIdeal (hKernelIdeal := hKernelIdeal)
    ∧ quiescent_KernelIdeal_pre_front (hKernelIdeal := hKernelIdeal) (hPre_front := hPre_front)
    ∧ quiescent_ReferenceIdeal (hReferenceIdeal := hReferenceIdeal)
    ∧ quiescent_ReferenceIdeal_pre_front (hReferenceIdeal := hReferenceIdeal) (hPre_front := hPre_front)
    ∧ preserves_Kernel_KernelIdeal
    ∧ algebraic_KernelIdeal_ReferenceIdeal_pre_front (hKernelIdeal := hKernelIdeal) (hReferenceIdeal := hReferenceIdeal) (hPre_front := hPre_front)
-- ==== Pre_front.lean ====
abbrev S100000x128 : Shape := ⟨2, ![100000, 128]⟩
abbrev S50000x128 : Shape := ⟨2, ![50000, 128]⟩
abbrev S50000 : Shape := ⟨1, ![50000]⟩
abbrev S_ : Shape := ⟨0, ![]⟩

class Facts : Prop where
  reducesTo_S50000_S_d0 : S50000.ReducesTo [0] S_
  h_S_ : 0 < S_.numel

variable [Facts]

def fn {F : FTy → Type} [FloatOps F] (main_arg0 : FVec F S100000x128 .f32) (main_arg1 : FVec F S50000x128 .f32) (main_arg2 : FVec F S50000x128 .f32) (main_arg3 : IVec S50000 32) : IVec S_ 1 :=
  let main_v0 : IVec S50000 32 := iotaInDim S50000 32 0
  let main_v1 : IVec S50000 1 := cmpi .eq main_arg3 main_v0
  let main_c : IVec S_ 1 := constantI S_ 1 1#1
  let main_v2 : IVec S_ 1 := (fun x v => Host.reduce IntOp.andi x v reducesTo_S50000_S_d0 h_S_) main_v1 main_c
  main_v2
-- ==== Kernel.lean ====
abbrev S100000x128 : Shape := ⟨2, ![100000, 128]⟩
abbrev S50000x128 : Shape := ⟨2, ![50000, 128]⟩
abbrev S50000 : Shape := ⟨1, ![50000]⟩
abbrev S25000x128 : Shape := ⟨2, ![25000, 128]⟩
abbrev S_ : Shape := ⟨0, ![]⟩
abbrev S1000x128 : Shape := ⟨2, ![1000, 128]⟩
abbrev S2048x128 : Shape := ⟨2, ![2048, 128]⟩
abbrev S424x128 : Shape := ⟨2, ![424, 128]⟩

abbrev nBuf : Table → Nat
  | .hbm => 8
  | .local .tc .vmem => 4
  | .shared => 3
  | _ => 0

abbrev bufTy : (tb : Table) → Fin (nBuf tb) → BufTy
  | .hbm, ⟨0, _⟩ => ⟨S100000x128, .f32⟩
  | .hbm, ⟨1, _⟩ => ⟨S50000x128, .f32⟩
  | .hbm, ⟨2, _⟩ => ⟨S50000x128, .f32⟩
  | .hbm, ⟨3, _⟩ => ⟨S50000, .i32⟩
  | .hbm, ⟨4, _⟩ => ⟨S100000x128, .f32⟩
  | .hbm, ⟨5, _⟩ => ⟨S_, .f32⟩
  | .hbm, ⟨6, _⟩ => ⟨S1000x128, .f32⟩
  | .hbm, ⟨7, _⟩ => ⟨S100000x128, .f32⟩
  | .local .tc .vmem, ⟨0, _⟩ => ⟨S25000x128, .f32⟩
  | .local .tc .vmem, ⟨1, _⟩ => ⟨S25000x128, .f32⟩
  | .local .tc .vmem, ⟨2, _⟩ => ⟨S25000x128, .f32⟩
  | .local .tc .vmem, ⟨3, _⟩ => ⟨S25000x128, .f32⟩
  | .shared, ⟨0, _⟩ => ⟨S2048x128, .f32⟩
  | .shared, ⟨1, _⟩ => ⟨S2048x128, .f32⟩
  | .shared, ⟨2, _⟩ => ⟨S1000x128, .f32⟩
  | _, _ => ⟨S100000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | ⟨8, _⟩ => false
  | ⟨9, _⟩ => false
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_arg1_scs : Ref sig .scScalar := ⟨.hbm, 1, rfl⟩
abbrev main_v1_scs : Ref sig .scScalar := ⟨.hbm, 6, rfl⟩
abbrev main_v2_scs : Ref sig .scScalar := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_scratch0 : Ref sig .scScalar := ⟨.shared, 0, rfl⟩
abbrev cc1_scratch1 : Ref sig .scScalar := ⟨.shared, 1, rfl⟩
abbrev cc1_scratch2 : Ref sig .scScalar := ⟨.shared, 2, rfl⟩
abbrev cc0_sem0_0 : DmaSem sig := 0
abbrev cc0_sem0_1 : DmaSem sig := 1
abbrev cc0_sem1_0 : DmaSem sig := 2
abbrev cc0_sem1_1 : DmaSem sig := 3
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S25000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S25000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![2], ![false]⟩

def k1_off1 (i : grid1.Coords) (c0_i32 : BitVec 32) : Fin 2 → Nat :=
  let arg0 : BitVec 32 := BitVec.ofNat 32 (i 0).val
  let c25000_i32 : BitVec 32 := 25000#32
  let v0 : BitVec 32 := Scalar.muli arg0 c25000_i32
  let v1 : BitVec 32 := Scalar.addi v0 c0_i32
  let c0_i32_2 : BitVec 32 := 0#32
  ![v1.toNat, 0]
def k1_off2 (i : grid1.Coords) (c0_i32_6 : BitVec 32) : Fin 2 → Nat :=
  let c50000_i32 : BitVec 32 := 50000#32
  let arg0 : BitVec 32 := BitVec.ofNat 32 (i 0).val
  let c25000_i32 : BitVec 32 := 25000#32
  let v0 : BitVec 32 := Scalar.muli arg0 c25000_i32
  let v7 : BitVec 32 := Scalar.addi c50000_i32 v0
  let v8 : BitVec 32 := Scalar.addi v7 c0_i32_6
  let c0_i32_7 : BitVec 32 := 0#32
  ![v8.toNat, 0]
def k1_off3 (i : grid1.Coords) (c0_i32_109 : BitVec 32) : Fin 2 → Nat :=
  let arg0 : BitVec 32 := BitVec.ofNat 32 (i 0).val
  let c25000_i32 : BitVec 32 := 25000#32
  let v0 : BitVec 32 := Scalar.muli arg0 c25000_i32
  let v109 : BitVec 32 := Scalar.addi v0 c0_i32_109
  let c0_i32_110 : BitVec 32 := 0#32
  ![v109.toNat, 0]
def k1_off4 (i : grid1.Coords) : Fin 2 → Nat :=
  let arg0 : BitVec 32 := BitVec.ofNat 32 (i 0).val
  let c25000_i32 : BitVec 32 := 25000#32
  let v0 : BitVec 32 := Scalar.muli arg0 c25000_i32
  let c24576_i32 : BitVec 32 := 24576#32
  let v214 : BitVec 32 := Scalar.addi v0 c24576_i32
  let c0_i32_248 : BitVec 32 := 0#32
  ![v214.toNat, 0]
def k1_off5 (i : grid1.Coords) : Fin 2 → Nat :=
  let arg0 : BitVec 32 := BitVec.ofNat 32 (i 0).val
  let c25000_i32 : BitVec 32 := 25000#32
  let v0 : BitVec 32 := Scalar.muli arg0 c25000_i32
  let c24576_i32_259 : BitVec 32 := 24576#32
  let v224 : BitVec 32 := Scalar.addi v0 c24576_i32_259
  let c0_i32_260 : BitVec 32 := 0#32
  ![v224.toNat, 0]
abbrev scKind : Fin 1 → Kind := fun | 0 => .scScalar | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== ReferenceIdeal.lean ====
abbrev S100000x128 : Shape := ⟨2, ![100000, 128]⟩
abbrev S50000x128 : Shape := ⟨2, ![50000, 128]⟩
abbrev S50000 : Shape := ⟨1, ![50000]⟩
abbrev S_ : Shape := ⟨0, ![]⟩
abbrev S50000x1 : Shape := ⟨2, ![50000, 1]⟩

abbrev nBuf : Space → Nat
  | .hbm => 15
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S50000x128, .f32⟩
  | .hbm, ⟨2, _⟩ => ⟨S50000x128, .f32⟩
  | .hbm, ⟨3, _⟩ => ⟨S50000, .i32⟩
  | .hbm, ⟨4, _⟩ => ⟨S_, .f32⟩
  | .hbm, ⟨5, _⟩ => ⟨S100000x128, .f32⟩
  | .hbm, ⟨6, _⟩ => ⟨S_, .i32⟩
  | .hbm, ⟨7, _⟩ => ⟨S50000, .i32⟩
  | .hbm, ⟨8, _⟩ => ⟨S50000, .i1⟩
  | .hbm, ⟨9, _⟩ => ⟨S_, .i32⟩
  | .hbm, ⟨10, _⟩ => ⟨S50000, .i32⟩
  | .hbm, ⟨11, _⟩ => ⟨S50000, .i32⟩
  | .hbm, ⟨12, _⟩ => ⟨S50000, .i32⟩
  | .hbm, ⟨13, _⟩ => ⟨S50000x1, .i32⟩
  | .hbm, ⟨14, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩

abbrev nD : Nat := 1
abbrev τ : Topo := Topo.v7x

variable {F : FTy → Type} [FloatOps F]
-- ==== Proof.Setup.lean ====
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.Ring
public import Idealize.ShloMosaic.Lib.ValueIdxCore
public import proofs.«01_k».proof.Proof.Gen.KernelIdeal
public import proofs.«01_k».proof.Proof.Gen.KernelIdeal.Launch

@[expose] public section

noncomputable section

namespace Cert.Proof.Unpool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic
open Idealize.ShloMosaic.ValueIdx

variable {F : FTy → Type}

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UP : Type := URounds (GSem nD τ sig) Unit
abbrev UU : Type := UH × (UP × Counters)

local notation "𝕄" => MT nD τ sig (HIx 1) (Elt F) ℕ UU ℕ

local notation "hW" => (Memref.whole Cert.KernelIdeal.main_arg1_scs : Memref Cert.KernelIdeal.sig Kind.scScalar Space.hbm Cert.KernelIdeal.S50000x128 EltTy.f32)
local notation "zW" => (Memref.whole Cert.KernelIdeal.main_v1_scs : Memref Cert.KernelIdeal.sig Kind.scScalar Space.hbm Cert.KernelIdeal.S1000x128 EltTy.f32)
local notation "oW" => (Memref.whole Cert.KernelIdeal.main_v2_scs : Memref Cert.KernelIdeal.sig Kind.scScalar Space.hbm Cert.KernelIdeal.S100000x128 EltTy.f32)
local notation "aW" => (Memref.whole Cert.KernelIdeal.cc1_scratch0 : Memref Cert.KernelIdeal.sig Kind.scScalar Space.shared Cert.KernelIdeal.S2048x128 EltTy.f32)
local notation "bW" => (Memref.whole Cert.KernelIdeal.cc1_scratch1 : Memref Cert.KernelIdeal.sig Kind.scScalar Space.shared Cert.KernelIdeal.S2048x128 EltTy.f32)
local notation "uW" => (Memref.whole Cert.KernelIdeal.cc1_scratch2 : Memref Cert.KernelIdeal.sig Kind.scScalar Space.shared Cert.KernelIdeal.S1000x128 EltTy.f32)

abbrev hLoc (d : Dev nD) : Loc nD τ sig := (SparseCore.T d).loc main_arg1
abbrev zLoc (d : Dev nD) : Loc nD τ sig := (SparseCore.T d).loc main_v1
abbrev oLoc (d : Dev nD) : Loc nD τ sig := (SparseCore.T d).loc main_v2

variable [FloatOps F]

abbrev oZ (i : grid1.Coords) (w : BitVec 32) (hw : ∀ a, (k1_off2 i w) a + S1000x128.size a ≤ S100000x128.size a) : Memref sig .scScalar .hbm S1000x128 .f32 :=
  (oW).slice (Rect.unit (s := S100000x128) (k1_off2 i w) S1000x128.size hw) (fun _ => rfl)
abbrev oF (i : grid1.Coords) (w : BitVec 32) (hw : ∀ a, (k1_off3 i w) a + S2048x128.size a ≤ S100000x128.size a) : Memref sig .scScalar .hbm S2048x128 .f32 :=
  (oW).slice (Rect.unit (s := S100000x128) (k1_off3 i w) S2048x128.size hw) (fun _ => rfl)
abbrev oL (i : grid1.Coords) : Memref sig .scScalar .hbm S424x128 .f32 :=
  (oW).slice (Rect.unit (s := S100000x128) (k1_off5 i) S424x128.size (k1_off5_inb i)) (fun _ => rfl)

abbrev pZ (d : Dev nD) (c : Fin τ.nSC) (i : grid1.Coords) (w : BitVec 32) (hw : ∀ a, (k1_off2 i w) a + S1000x128.size a ≤ S100000x128.size a) (f : Buf (Elt F) (oLoc d)) : sProp 𝕄 :=
  (oZ i w hw).view.loc (S d c) ↦[(oZ i w hw).view.set]{fullShare} f
abbrev pF (d : Dev nD) (c : Fin τ.nSC) (i : grid1.Coords) (w : BitVec 32) (hw : ∀ a, (k1_off3 i w) a + S2048x128.size a ≤ S100000x128.size a) (f : Buf (Elt F) (oLoc d)) : sProp 𝕄 :=
  (oF i w hw).view.loc (S d c) ↦[(oF i w hw).view.set]{fullShare} f
abbrev pL (d : Dev nD) (c : Fin τ.nSC) (i : grid1.Coords) (f : Buf (Elt F) (oLoc d)) : sProp 𝕄 :=
  (oL i).view.loc (S d c) ↦[(oL i).view.set]{fullShare} f

abbrev csem (k : Nat) (hk : k < 10 := by decide) : DmaSem sig := ⟨k, hk⟩
abbrev dcell (d : Dev nD) (c : Fin τ.nSC) (k : Nat) (hk : k < 10 := by decide) : sProp 𝕄 := semVal (S d c, SemLoc.dma (csem k hk)) 0

abbrev cells0 (d : Dev nD) (c : Fin τ.nSC) : sProp 𝕄 :=
  iprop(dcell d c 4 ∗ dcell d c 5 ∗ dcell d c 6 ∗ dcell d c 7 ∗ dcell d c 8 ∗ dcell d c 9)

/-- Sequencer 0's and sequencer 1's coordinates in the kernel's grid. -/
def i0 : grid1.Coords := fun | 0 => ⟨0, by decide⟩ | ⟨_ + 1, h⟩ => absurd h (Nat.not_lt.2 (Nat.le_add_left _ _))
def i1 : grid1.Coords := fun | 0 => ⟨1, by decide⟩ | ⟨_ + 1, h⟩ => absurd h (Nat.not_lt.2 (Nat.le_add_left _ _))

/-! ## The result's windows, listed -/

/-- The 25 windows of a sequencer's rows of zeros, and the 13 of its rows of `h`, each held at `f`. -/
abbrev zWins (d : Dev nD) (c : Fin τ.nSC) (i : grid1.Coords) (f : Buf (Elt F) (oLoc d)) : sProp 𝕄 :=
  iprop(pZ d c i 0#32 (k1_off2_inb i 0) f
    ∗ pZ d c i 1000#32 (k1_off2_inb i 1) f
    ∗ pZ d c i 2000#32 (k1_off2_inb i 2) f
    ∗ pZ d c i 3000#32 (k1_off2_inb i 3) f
    ∗ pZ d c i 4000#32 (k1_off2_inb i 4) f
    ∗ pZ d c i 5000#32 (k1_off2_inb i 5) f
    ∗ pZ d c i 6000#32 (k1_off2_inb i 6) f
    ∗ pZ d c i 7000#32 (k1_off2_inb i 7) f
    ∗ pZ d c i 8000#32 (k1_off2_inb i 8) f
    ∗ pZ d c i 9000#32 (k1_off2_inb i 9) f
    ∗ pZ d c i 10000#32 (k1_off2_inb i 10) f
    ∗ pZ d c i 11000#32 (k1_off2_inb i 11) f
    ∗ pZ d c i 12000#32 (k1_off2_inb i 12) f
    ∗ pZ d c i 13000#32 (k1_off2_inb i 13) f
    ∗ pZ d c i 14000#32 (k1_off2_inb i 14) f
    ∗ pZ d c i 15000#32 (k1_off2_inb i 15) f
    ∗ pZ d c i 16000#32 (k1_off2_inb i 16) f
    ∗ pZ d c i 17000#32 (k1_off2_inb i 17) f
    ∗ pZ d c i 18000#32 (k1_off2_inb i 18) f
    ∗ pZ d c i 19000#32 (k1_off2_inb i 19) f
    ∗ pZ d c i 20000#32 (k1_off2_inb i 20) f
    ∗ pZ d c i 21000#32 (k1_off2_inb i 21) f
    ∗ pZ d c i 22000#32 (k1_off2_inb i 22) f
    ∗ pZ d c i 23000#32 (k1_off2_inb i 23) f
    ∗ pZ d c i 24000#32 (k1_off2_inb i 24) f)
abbrev fWins (d : Dev nD) (c : Fin τ.nSC) (i : grid1.Coords) (f : Buf (Elt F) (oLoc d)) : sProp 𝕄 :=
  iprop(pF d c i 0#32 (k1_off3_inb i 0) f
    ∗ pF d c i 2048#32 (k1_off3_inb i 1) f
    ∗ pF d c i 4096#32 (k1_off3_inb i 2) f
    ∗ pF d c i 6144#32 (k1_off3_inb i 3) f
    ∗ pF d c i 8192#32 (k1_off3_inb i 4) f
    ∗ pF d c i 10240#32 (k1_off3_inb i 5) f
    ∗ pF d c i 12288#32 (k1_off3_inb i 6) f
    ∗ pF d c i 14336#32 (k1_off3_inb i 7) f
    ∗ pF d c i 16384#32 (k1_off3_inb i 8) f
    ∗ pF d c i 18432#32 (k1_off3_inb i 9) f
    ∗ pF d c i 20480#32 (k1_off3_inb i 10) f
    ∗ pF d c i 22528#32 (k1_off3_inb i 11) f
    ∗ pL d c i f)

/-! ## What the result holds

Rows 0 … 49999 are `h`'s, the others the rows of the 1000-row buffer over and over. -/

/-- The result's contents from `h`'s and the filling buffer's. -/
def unp (d : Dev nD) (fh : Buf (Elt F) (hLoc d)) (fz : Buf (Elt F) (zLoc d)) : Buf (Elt F) (oLoc d) :=
  fun x : S100000x128.Idx =>
    if h : (x 0).val < 50000 then fh (ix2 (n0 := 50000) (n1 := 128) ⟨(x 0).val, h⟩ (x 1))
    else fz (ix2 (n0 := 1000) (n1 := 128) ⟨(x 0).val % 1000, Nat.mod_lt _ (by decide)⟩ (x 1))

omit [FloatOps F] in
/-- A view's elements after one copy of `p` over all of it are its elements at any contents that read `p` there. -/
theorem whole_write_eq (thr : Thread nD τ) {sp : Space} {s : Shape} {e : EltTy} (v : View sig thr.2.kind sp s e) (q : PosShare TreeShare)
    (f g : Buf (Elt F) (v.loc thr)) (p : s.Idx → Elt F e) (h : ∀ x, v.read (Elt F) g x = p x) :
    (v.loc thr ↦[v.set]{q} v.writes (Elt F) f [⟨Rect.whole s, p⟩] : sProp 𝕄) = v.loc thr ↦[v.set]{q} g :=
  pointsTo_congr fun i hi => by
    obtain ⟨x, -, rfl⟩ := Finset.mem_map.mp hi
    have hw := v.read_writes_cons_hit_of_coords f (Rect.whole s) p [] x x (fun a => by simp [Rect.whole])
    have := hw.trans (h x).symm
    rw [View.read_apply, View.read_apply] at this
    exact (cast_inj _).mp this

omit [FloatOps F] in
/-- What a copy out of a rectangle of a buffer carries, when the last write through that rectangle of the buffer put `p` there. -/
theorem staged {sp : Space} {s : Shape} (m : Memref sig .scScalar sp s .f32) (f : m.view.ty.Contents (Elt F)) (r : Rect s) (hr : ∀ a, r.stride a = 1)
    (p : r.shape.Idx → Elt F .f32) (L : List (View.Piece (Elt F) s .f32)) :
    (m.slice r hr).view.read (Elt F) (m.view.writes (Elt F) f (⟨r, p⟩ :: L)) = p :=
  View.read_write_univ (v := m.view.slice r) _ _

omit [FloatOps F] in
/-- The result at an element of a window of `n` rows from row `o` on, all below row 50000, is `h` at that row and column. -/
theorem unp_front (d : Dev nD) (fh : Buf (Elt F) (hLoc d)) (fz : Buf (Elt F) (zLoc d)) (n : ℕ) (off off' : Fin 2 → ℕ)
    (hn : ∀ a, off a + (![n, 128] : Fin 2 → ℕ) a ≤ S100000x128.size a) (hn' : ∀ a, off' a + (![n, 128] : Fin 2 → ℕ) a ≤ S50000x128.size a)
    (ho : off = off') (x : (⟨2, ![n, 128]⟩ : Shape).Idx) :
    unp d fh fz ((Rect.unit (s := S100000x128) off ![n, 128] hn).emb x) = fh ((Rect.unit (s := S50000x128) off' ![n, 128] hn').emb x) := by
  subst ho
  have h0 : off 0 + (x 0).val < 50000 := Nat.lt_of_lt_of_le (Nat.add_lt_add_left (x 0).isLt _) (hn' 0)
  unfold unp
  rw [dif_pos (show ((Rect.unit (s := S100000x128) off ![n, 128] hn).emb x 0).val < 50000 by simpa using h0)]
  congr 1
  funext a; fin_cases a <;> exact Fin.ext (by simp)

omit [FloatOps F] in
/-- The result at an element of a window of 1000 rows from a multiple of 1000 on, from row 50000 on, is the filling buffer at the window's own row and column. -/
theorem unp_back (d : Dev nD) (fh : Buf (Elt F) (hLoc d)) (fz : Buf (Elt F) (zLoc d)) (off : Fin 2 → ℕ)
    (hn : ∀ a, off a + S1000x128.size a ≤ S100000x128.size a) (ho : 50000 ≤ off 0 ∧ off 0 % 1000 = 0 ∧ off 1 = 0) (x : S1000x128.Idx) :
    unp d fh fz ((Rect.unit (s := S100000x128) off S1000x128.size hn).emb x) = fz x := by
  obtain ⟨h0, h1, h2⟩ := ho
  have hx : (x 0).val < 1000 := (x 0).isLt
  unfold unp
  rw [dif_neg (show ¬ ((Rect.unit (s := S100000x128) off S1000x128.size hn).emb x 0).val < 50000 by simp; omega)]
  congr 1
  funext a; fin_cases a <;> refine Fin.ext ?_ <;> simp <;> omega

/-! ## A window after its copy holds the result -/

omit [FloatOps F] in
/-- A window of the second half: the filling buffer was copied to the scratch, and the scratch to the window. -/
theorem pZ_done (d : Dev nD) (c : Fin τ.nSC) (i : grid1.Coords) (w : BitVec 32) (hw : ∀ a, (k1_off2 i w) a + S1000x128.size a ≤ S100000x128.size a)
    (ho : 50000 ≤ k1_off2 i w 0 ∧ k1_off2 i w 0 % 1000 = 0 ∧ k1_off2 i w 1 = 0)
    (fh : Buf (Elt F) (hLoc d)) (fz : Buf (Elt F) (zLoc d)) (fo : Buf (Elt F) (oLoc d)) (fu : (uW).view.ty.Contents (Elt F))
    (hr : ∀ a, (![0, 0] : Fin 2 → ℕ) a + S1000x128.size a ≤ S1000x128.size a) (hs) :
    ((oZ i w hw).view.loc (S d c) ↦[(oZ i w hw).view.set]{fullShare} (oZ i w hw).view.writes (Elt F) fo
        [⟨Rect.whole S1000x128, ReadAs.same.apply (((uW).slice (Rect.unit (s := S1000x128) ![0, 0] S1000x128.size hr) hs).view.read (Elt F)
          ((uW).view.write (Elt F) fu (ReadAs.same.apply ((zW).view.read (Elt F) fz)) Finset.univ))⟩] : sProp 𝕄)
      ⊢ pZ d c i w hw (unp d fh fz) :=
  Entails.of_eq (whole_write_eq (S d c) (oZ i w hw).view fullShare fo (unp d fh fz) _ fun x => by
    refine (unp_back d fh fz _ hw ho x).trans ?_
    change _ = View.write (Elt F) (uW).view fu (ReadAs.same.apply ((zW).view.read (Elt F) fz)) Finset.univ ((Rect.unit (s := S1000x128) ![0, 0] S1000x128.size hr).emb x)
    rw [show (Rect.unit (s := S1000x128) ![0, 0] S1000x128.size hr).emb x = x from funext fun a => Fin.ext (by fin_cases a <;> simp)]
    exact (congrFun (View.read_write_univ (v := (uW).view) fu _) x).symm)

omit [FloatOps F] in
/-- A window of 2048 rows of the first half: the rows of `h` were copied to a buffer (`m`), and the buffer to the window. -/
theorem pF_done (d : Dev nD) (c : Fin τ.nSC) (i : grid1.Coords) (w : BitVec 32) (hw : ∀ a, (k1_off3 i w) a + S2048x128.size a ≤ S100000x128.size a)
    (hw' : ∀ a, (k1_off1 i w) a + S2048x128.size a ≤ S50000x128.size a) (ho : k1_off3 i w = k1_off1 i w)
    (fh : Buf (Elt F) (hLoc d)) (fz : Buf (Elt F) (zLoc d)) (fo : Buf (Elt F) (oLoc d))
    (m : Memref sig .scScalar .shared S2048x128 .f32) (fm : m.view.ty.Contents (Elt F)) (L)
    (hr : ∀ a, (![0, 0] : Fin 2 → ℕ) a + S2048x128.size a ≤ S2048x128.size a) (hs) (hs') :
    ((oF i w hw).view.loc (S d c) ↦[(oF i w hw).view.set]{fullShare} (oF i w hw).view.writes (Elt F) fo
        [⟨Rect.whole S2048x128, ReadAs.same.apply ((m.slice (Rect.unit (s := S2048x128) ![0, 0] S2048x128.size hr) hs).view.read (Elt F)
          (m.view.writes (Elt F) fm (⟨Rect.unit (s := S2048x128) ![0, 0] S2048x128.size hr,
            ReadAs.same.apply (((hW).slice (Rect.unit (s := S50000x128) (k1_off1 i w) S2048x128.size hw') hs').view.read (Elt F) fh)⟩ :: L)))⟩] : sProp 𝕄)
      ⊢ pF d c i w hw (unp d fh fz) :=
  Entails.of_eq (whole_write_eq (S d c) (oF i w hw).view fullShare fo (unp d fh fz) _ fun x =>
    (unp_front d fh fz 2048 _ _ hw hw' ho x).trans
      (congrFun (staged m fm (Rect.unit (s := S2048x128) ![0, 0] S2048x128.size hr) hs
        (((hW).slice (Rect.unit (s := S50000x128) (k1_off1 i w) S2048x128.size hw') hs').view.read (Elt F) fh) L) x).symm)

omit [FloatOps F] in
/-- The last window of the first half, of 424 rows, likewise through the first 424 rows of the buffer. -/
theorem pL_done (d : Dev nD) (c : Fin τ.nSC) (i : grid1.Coords) (ho : k1_off5 i = k1_off4 i)
    (fh : Buf (Elt F) (hLoc d)) (fz : Buf (Elt F) (zLoc d)) (fo : Buf (Elt F) (oLoc d))
    (m : Memref sig .scScalar .shared S2048x128 .f32) (fm : m.view.ty.Contents (Elt F)) (L)
    (hr : ∀ a, (![0, 0] : Fin 2 → ℕ) a + S424x128.size a ≤ S2048x128.size a) (hs) (hs') :
    ((oL i).view.loc (S d c) ↦[(oL i).view.set]{fullShare} (oL i).view.writes (Elt F) fo
        [⟨Rect.whole S424x128, ReadAs.same.apply ((m.slice (Rect.unit (s := S2048x128) ![0, 0] S424x128.size hr) hs).view.read (Elt F)
          (m.view.writes (Elt F) fm (⟨Rect.unit (s := S2048x128) ![0, 0] S424x128.size hr,
            ReadAs.same.apply (((hW).slice (Rect.unit (s := S50000x128) (k1_off4 i) S424x128.size (k1_off4_inb i)) hs').view.read (Elt F) fh)⟩ :: L)))⟩] : sProp 𝕄)
      ⊢ pL d c i (unp d fh fz) :=
  Entails.of_eq (whole_write_eq (S d c) (oL i).view fullShare fo (unp d fh fz) _ fun x =>
    (unp_front d fh fz 424 _ _ (k1_off5_inb i) (k1_off4_inb i) ho x).trans
      (congrFun (staged m fm (Rect.unit (s := S2048x128) ![0, 0] S424x128.size hr) hs
        (((hW).slice (Rect.unit (s := S50000x128) (k1_off4 i) S424x128.size (k1_off4_inb i)) hs').view.read (Elt F) fh) L) x).symm)

end Cert.Proof.Unpool

end
-- ==== Proof.Body.lean ====
module

public import proofs.«01_k».proof.Proof.Setup

@[expose] public section

noncomputable section

namespace Cert.Proof.Unpool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type}

local notation "𝕄" => MT nD τ sig (HIx 1) (Elt F) ℕ UU ℕ

local notation "hW" => (Memref.whole Cert.KernelIdeal.main_arg1_scs : Memref Cert.KernelIdeal.sig Kind.scScalar Space.hbm Cert.KernelIdeal.S50000x128 EltTy.f32)
local notation "zW" => (Memref.whole Cert.KernelIdeal.main_v1_scs : Memref Cert.KernelIdeal.sig Kind.scScalar Space.hbm Cert.KernelIdeal.S1000x128 EltTy.f32)
local notation "oW" => (Memref.whole Cert.KernelIdeal.main_v2_scs : Memref Cert.KernelIdeal.sig Kind.scScalar Space.hbm Cert.KernelIdeal.S100000x128 EltTy.f32)
local notation "aW" => (Memref.whole Cert.KernelIdeal.cc1_scratch0 : Memref Cert.KernelIdeal.sig Kind.scScalar Space.shared Cert.KernelIdeal.S2048x128 EltTy.f32)
local notation "bW" => (Memref.whole Cert.KernelIdeal.cc1_scratch1 : Memref Cert.KernelIdeal.sig Kind.scScalar Space.shared Cert.KernelIdeal.S2048x128 EltTy.f32)
local notation "uW" => (Memref.whole Cert.KernelIdeal.cc1_scratch2 : Memref Cert.KernelIdeal.sig Kind.scScalar Space.shared Cert.KernelIdeal.S1000x128 EltTy.f32)

variable [FloatOps F]

set_option maxHeartbeats 4000000 in
open Transfers in
/-- The kernel's body on either sequencer, from read shares of `h` (one for each kind of load out of it) and of the filling
    buffer, the three scratch buffers, the result's 38 windows of this sequencer and the six semaphores at zero: it runs
    to its end, and the windows hold the result. -/
theorem seq_run (d : Dev nD) (i : grid1.Coords) (O : CellTallies nD τ sig (HIx 1)) (W : Waits sig (HIx 1)) (q : PosShare TreeShare)
    (hi : i = i0 ∨ i = i1)
    (fh : Buf (Elt F) (hLoc d)) (fz : Buf (Elt F) (zLoc d)) (fo : Buf (Elt F) (oLoc d))
    (fa : Buf (Elt F) ((aW).view.loc (S d ((i 0).castLE hcore1)))) (fb : Buf (Elt F) ((bW).view.loc (S d ((i 0).castLE hcore1))))
    (fu : Buf (Elt F) ((uW).view.loc (S d ((i 0).castLE hcore1))))
    (_plan : Transfers.BatchOfUse (S d ((i 0).castLE hcore1)) (SemLoc.dma (sig := sig) (csem 9)) 1 25 (windows := true)) :
    (iprop(Transfers.MayWaits (S d ((i 0).castLE hcore1)) (none : HIx 1) O
        ∗ ((hW).view.loc (S d ((i 0).castLE hcore1)) ↦{shareTokN q 4} fh)
        ∗ ((hW).view.loc (S d ((i 0).castLE hcore1)) ↦{shareTokN q 5} fh)
        ∗ ((hW).view.loc (S d ((i 0).castLE hcore1)) ↦{shareTokN q 6} fh)
        ∗ ((zW).view.loc (S d ((i 0).castLE hcore1)) ↦{q} fz)
        ∗ ((aW).view.loc (S d ((i 0).castLE hcore1)) ↦{fullShare} fa)
        ∗ ((bW).view.loc (S d ((i 0).castLE hcore1)) ↦{fullShare} fb)
        ∗ ((uW).view.loc (S d ((i 0).castLE hcore1)) ↦{fullShare} fu)
        ∗ zWins d ((i 0).castLE hcore1) i fo
        ∗ fWins d ((i 0).castLE hcore1) i fo
        ∗ cells0 d ((i 0).castLE hcore1)
        ∗ owes (S d ((i 0).castLE hcore1)) O W) : sProp 𝕄)
      ⊢ wp frame (wpE (defs₀ (F := F)) 𝒱₀ (S d ((i 0).castLE hcore1)) none) Set.univ
          (cc1__unpool_body i hW (Memref.isWhole_whole _) zW (Memref.isWhole_whole _) oW (Memref.isWhole_whole _)
            aW (Memref.isWhole_whole _) bW (Memref.isWhole_whole _) uW (Memref.isWhole_whole _)
            cc1_scratch3 cc1_scratch4 cc1_scratch5 cc1_scratch6 cc1_scratch7 cc1_scratch8)
          fun _ => iprop(
            ((hW).view.loc (S d ((i 0).castLE hcore1)) ↦{shareTokN q 4} fh)
            ∗ ((hW).view.loc (S d ((i 0).castLE hcore1)) ↦{shareTokN q 5} fh)
            ∗ ((hW).view.loc (S d ((i 0).castLE hcore1)) ↦{shareTokN q 6} fh)
            ∗ ((zW).view.loc (S d ((i 0).castLE hcore1)) ↦{q} fz)
            ∗ (∃ f, (aW).view.loc (S d ((i 0).castLE hcore1)) ↦{fullShare} f)
            ∗ (∃ f, (bW).view.loc (S d ((i 0).castLE hcore1)) ↦{fullShare} f)
            ∗ (∃ f, (uW).view.loc (S d ((i 0).castLE hcore1)) ↦{fullShare} f)
            ∗ zWins d ((i 0).castLE hcore1) i (unp d fh fz)
            ∗ fWins d ((i 0).castLE hcore1) i (unp d fh fz)
            ∗ cells0 d ((i 0).castLE hcore1)
            ∗ ∃ W', owes (S d ((i 0).castLE hcore1)) O W') := by
  rcases hi with rfl | rfl
  all_goals
    iintro ⟨#Hmw, Hh4, Hh5, Hh6, Hz, Ha, Hb, Hu, ⟨HZ0, HZ1, HZ2, HZ3, HZ4, HZ5, HZ6, HZ7, HZ8, HZ9, HZ10, HZ11, HZ12, HZ13, HZ14, HZ15, HZ16, HZ17, HZ18, HZ19, HZ20, HZ21, HZ22, HZ23, HZ24⟩, ⟨HF0, HF1, HF2, HF3, HF4, HF5, HF6, HF7, HF8, HF9, HF10, HF11, HF12⟩, ⟨Hc4, Hc5, Hc6, Hc7, Hc8, Hc9⟩, HO⟩
    sl_unfold [cc1__unpool_body]
    sl_exec (disch := exact View.amount_pos _ _ (show 0 < S2048x128.numel by decide))
    sl_step
    isplitl [Hh4]; · iexact Hh4
    isplitl [Hh5]; · iexact Hh5
    isplitl [Hh6]; · iexact Hh6
    isplitl [Hz]; · iexact Hz
    isplitl [Ha]; · iexists _; iexact Ha
    isplitl [Hb]; · iexists _; iexact Hb
    isplitl [Hu]; · iexists _; iexact Hu
    isplitl [HZ0 HZ1 HZ2 HZ3 HZ4 HZ5 HZ6 HZ7 HZ8 HZ9 HZ10 HZ11 HZ12 HZ13 HZ14 HZ15 HZ16 HZ17 HZ18 HZ19 HZ20 HZ21 HZ22 HZ23 HZ24]
    · isplitl [HZ0]; · iapply (pZ_done d _ _ 0#32 (k1_off2_inb _ 0) (by decide) fh fz fo fu); iexact HZ0
      isplitl [HZ1]; · iapply (pZ_done d _ _ 1000#32 (k1_off2_inb _ 1) (by decide) fh fz fo fu); iexact HZ1
      isplitl [HZ2]; · iapply (pZ_done d _ _ 2000#32 (k1_off2_inb _ 2) (by decide) fh fz fo fu); iexact HZ2
      isplitl [HZ3]; · iapply (pZ_done d _ _ 3000#32 (k1_off2_inb _ 3) (by decide) fh fz fo fu); iexact HZ3
      isplitl [HZ4]; · iapply (pZ_done d _ _ 4000#32 (k1_off2_inb _ 4) (by decide) fh fz fo fu); iexact HZ4
      isplitl [HZ5]; · iapply (pZ_done d _ _ 5000#32 (k1_off2_inb _ 5) (by decide) fh fz fo fu); iexact HZ5
      isplitl [HZ6]; · iapply (pZ_done d _ _ 6000#32 (k1_off2_inb _ 6) (by decide) fh fz fo fu); iexact HZ6
      isplitl [HZ7]; · iapply (pZ_done d _ _ 7000#32 (k1_off2_inb _ 7) (by decide) fh fz fo fu); iexact HZ7
      isplitl [HZ8]; · iapply (pZ_done d _ _ 8000#32 (k1_off2_inb _ 8) (by decide) fh fz fo fu); iexact HZ8
      isplitl [HZ9]; · iapply (pZ_done d _ _ 9000#32 (k1_off2_inb _ 9) (by decide) fh fz fo fu); iexact HZ9
      isplitl [HZ10]; · iapply (pZ_done d _ _ 10000#32 (k1_off2_inb _ 10) (by decide) fh fz fo fu); iexact HZ10
      isplitl [HZ11]; · iapply (pZ_done d _ _ 11000#32 (k1_off2_inb _ 11) (by decide) fh fz fo fu); iexact HZ11
      isplitl [HZ12]; · iapply (pZ_done d _ _ 12000#32 (k1_off2_inb _ 12) (by decide) fh fz fo fu); iexact HZ12
      isplitl [HZ13]; · iapply (pZ_done d _ _ 13000#32 (k1_off2_inb _ 13) (by decide) fh fz fo fu); iexact HZ13
      isplitl [HZ14]; · iapply (pZ_done d _ _ 14000#32 (k1_off2_inb _ 14) (by decide) fh fz fo fu); iexact HZ14
      isplitl [HZ15]; · iapply (pZ_done d _ _ 15000#32 (k1_off2_inb _ 15) (by decide) fh fz fo fu); iexact HZ15
      isplitl [HZ16]; · iapply (pZ_done d _ _ 16000#32 (k1_off2_inb _ 16) (by decide) fh fz fo fu); iexact HZ16
      isplitl [HZ17]; · iapply (pZ_done d _ _ 17000#32 (k1_off2_inb _ 17) (by decide) fh fz fo fu); iexact HZ17
      isplitl [HZ18]; · iapply (pZ_done d _ _ 18000#32 (k1_off2_inb _ 18) (by decide) fh fz fo fu); iexact HZ18
      isplitl [HZ19]; · iapply (pZ_done d _ _ 19000#32 (k1_off2_inb _ 19) (by decide) fh fz fo fu); iexact HZ19
      isplitl [HZ20]; · iapply (pZ_done d _ _ 20000#32 (k1_off2_inb _ 20) (by decide) fh fz fo fu); iexact HZ20
      isplitl [HZ21]; · iapply (pZ_done d _ _ 21000#32 (k1_off2_inb _ 21) (by decide) fh fz fo fu); iexact HZ21
      isplitl [HZ22]; · iapply (pZ_done d _ _ 22000#32 (k1_off2_inb _ 22) (by decide) fh fz fo fu); iexact HZ22
      isplitl [HZ23]; · iapply (pZ_done d _ _ 23000#32 (k1_off2_inb _ 23) (by decide) fh fz fo fu); iexact HZ23
      iapply (pZ_done d _ _ 24000#32 (k1_off2_inb _ 24) (by decide) fh fz fo fu); iexact HZ24
    isplitl [HF0 HF1 HF2 HF3 HF4 HF5 HF6 HF7 HF8 HF9 HF10 HF11 HF12]
    · isplitl [HF0]; · iapply (pF_done d _ _ 0#32 (k1_off3_inb _ 0) (k1_off1_inb _ 0) rfl fh fz fo (aW) fa); iexact HF0
      isplitl [HF1]; · iapply (pF_done d _ _ 2048#32 (k1_off3_inb _ 1) (k1_off1_inb _ 1) rfl fh fz fo (bW) fb); iexact HF1
      isplitl [HF2]; · iapply (pF_done d _ _ 4096#32 (k1_off3_inb _ 2) (k1_off1_inb _ 2) rfl fh fz fo (aW) fa); iexact HF2
      isplitl [HF3]; · iapply (pF_done d _ _ 6144#32 (k1_off3_inb _ 3) (k1_off1_inb _ 3) rfl fh fz fo (bW) fb); iexact HF3
      isplitl [HF4]; · iapply (pF_done d _ _ 8192#32 (k1_off3_inb _ 4) (k1_off1_inb _ 4) rfl fh fz fo (aW) fa); iexact HF4
      isplitl [HF5]; · iapply (pF_done d _ _ 10240#32 (k1_off3_inb _ 5) (k1_off1_inb _ 5) rfl fh fz fo (bW) fb); iexact HF5
      isplitl [HF6]; · iapply (pF_done d _ _ 12288#32 (k1_off3_inb _ 6) (k1_off1_inb _ 6) rfl fh fz fo (aW) fa); iexact HF6
      isplitl [HF7]; · iapply (pF_done d _ _ 14336#32 (k1_off3_inb _ 7) (k1_off1_inb _ 7) rfl fh fz fo (bW) fb); iexact HF7
      isplitl [HF8]; · iapply (pF_done d _ _ 16384#32 (k1_off3_inb _ 8) (k1_off1_inb _ 8) rfl fh fz fo (aW) fa); iexact HF8
      isplitl [HF9]; · iapply (pF_done d _ _ 18432#32 (k1_off3_inb _ 9) (k1_off1_inb _ 9) rfl fh fz fo (bW) fb); iexact HF9
      isplitl [HF10]; · iapply (pF_done d _ _ 20480#32 (k1_off3_inb _ 10) (k1_off1_inb _ 10) rfl fh fz fo (aW) fa); iexact HF10
      isplitl [HF11]; · iapply (pF_done d _ _ 22528#32 (k1_off3_inb _ 11) (k1_off1_inb _ 11) rfl fh fz fo (bW) fb); iexact HF11
      iapply (pL_done d _ _ rfl fh fz fo (aW) fa); iexact HF12
    isplitl [Hc4 Hc5 Hc6 Hc7 Hc8 Hc9]
    · isplitl [Hc4]; · iexact Hc4
      isplitl [Hc5]; · iexact Hc5
      isplitl [Hc6]; · iexact Hc6
      isplitl [Hc7]; · iexact Hc7
      isplitl [Hc8]; · iexact Hc8
      iexact Hc9
    iexists _; iexact HO

end Cert.Proof.Unpool

end
-- ==== Proof.Deal.lean ====
module

public import proofs.«01_k».proof.Proof.Setup

/-!
# The result's rows, dealt out

The two sequencers' windows of the result are 76 bands of whole rows, apart from one another, and together they are all of it.
-/

@[expose] public section

noncomputable section

namespace Cert.Proof.Unpool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic
open Idealize.ShloMosaic.ValueIdx

variable {F : FTy → Type}

local notation "𝕄" => MT nD τ sig (HIx 1) (Elt F) ℕ UU ℕ

local notation "hW" => (Memref.whole Cert.KernelIdeal.main_arg1_scs : Memref Cert.KernelIdeal.sig Kind.scScalar Space.hbm Cert.KernelIdeal.S50000x128 EltTy.f32)
local notation "zW" => (Memref.whole Cert.KernelIdeal.main_v1_scs : Memref Cert.KernelIdeal.sig Kind.scScalar Space.hbm Cert.KernelIdeal.S1000x128 EltTy.f32)
local notation "oW" => (Memref.whole Cert.KernelIdeal.main_v2_scs : Memref Cert.KernelIdeal.sig Kind.scScalar Space.hbm Cert.KernelIdeal.S100000x128 EltTy.f32)
local notation "aW" => (Memref.whole Cert.KernelIdeal.cc1_scratch0 : Memref Cert.KernelIdeal.sig Kind.scScalar Space.shared Cert.KernelIdeal.S2048x128 EltTy.f32)
local notation "bW" => (Memref.whole Cert.KernelIdeal.cc1_scratch1 : Memref Cert.KernelIdeal.sig Kind.scScalar Space.shared Cert.KernelIdeal.S2048x128 EltTy.f32)
local notation "uW" => (Memref.whole Cert.KernelIdeal.cc1_scratch2 : Memref Cert.KernelIdeal.sig Kind.scScalar Space.shared Cert.KernelIdeal.S1000x128 EltTy.f32)

variable [FloatOps F]

/-- The `n` rows of the result from row `o` on. -/
def band (d : Dev nD) (o n : ℕ) : Finset (Idx (oLoc d)) :=
  Finset.univ.filter fun x : S100000x128.Idx => o ≤ (x 0).val ∧ (x 0).val < o + n

/-- A band's first row, by the sequencer and by which of its windows it is. -/
def lo : Fin 2 × (Fin 25 ⊕ Fin 13) → ℕ
  | (c, .inl r) => 25000 * c.val + 1000 * r.val + 50000
  | (c, .inr r) => 25000 * c.val + 2048 * r.val
/-- A band's number of rows. -/
def len : Fin 2 × (Fin 25 ⊕ Fin 13) → ℕ
  | (_, .inl _) => 1000
  | (_, .inr r) => if r.val = 12 then 424 else 2048

omit [FloatOps F] in
theorem band_eq (d : Dev nD) (off : Fin 2 → ℕ) (o n : ℕ) (hoff : off = ![o, 0])
    (h : ∀ a, off a + (![n, 128] : Fin 2 → ℕ) a ≤ S100000x128.size a) :
    (Rect.unit (s := S100000x128) off ![n, 128] h).set = band d o n := by
  subst hoff
  ext x
  rw [Rect.mem_set_unit]
  unfold band
  constructor
  · intro hx
    exact Finset.mem_filter.mpr ⟨Finset.mem_univ _, hx 0⟩
  · intro hx a
    have h0 := (Finset.mem_filter.mp hx).2
    fin_cases a
    · exact h0
    · exact ⟨Nat.zero_le _, by simpa using (x 1).isLt⟩

omit [FloatOps F] in
theorem band_disjoint (d : Dev nD) (t t' : Fin 2 × (Fin 25 ⊕ Fin 13)) (h : t ≠ t') :
    Disjoint (band d (lo t) (len t)) (band d (lo t') (len t')) := by
  refine Finset.disjoint_left.mpr fun x hx hx' => h ?_
  have h1 := (Finset.mem_filter.mp hx).2
  have h2 := (Finset.mem_filter.mp hx').2
  obtain ⟨⟨c, hc⟩, ⟨r, hr⟩ | ⟨r, hr⟩⟩ := t <;> obtain ⟨⟨c', hc'⟩, ⟨r', hr'⟩ | ⟨r', hr'⟩⟩ := t' <;> simp only [lo, len] at h1 h2
  · obtain rfl : c = c' := by omega
    obtain rfl : r = r' := by omega
    rfl
  · exfalso; split at h2 <;> omega
  · exfalso; split at h1 <;> omega
  · obtain rfl : c = c' := by split at h1 <;> split at h2 <;> omega
    obtain rfl : r = r' := by split at h1 <;> split at h2 <;> omega
    rfl

omit [FloatOps F] in
theorem band_cover (d : Dev nD) : (Finset.univ : Finset (Idx (oLoc d))) = Finset.univ.biUnion fun t => band d (lo t) (len t) := by
  refine (Finset.eq_univ_iff_forall.mpr fun x => ?_).symm
  have hx : ((show S100000x128.Idx from x) 0).val < 100000 := ((show S100000x128.Idx from x) 0).isLt
  generalize hr : ((show S100000x128.Idx from x) 0).val = r at hx
  suffices ∃ t, lo t ≤ r ∧ r < lo t + len t by
    obtain ⟨t, ht⟩ := this
    exact Finset.mem_biUnion.mpr ⟨t, Finset.mem_univ _, Finset.mem_filter.mpr ⟨Finset.mem_univ _, by rw [hr]; exact ht⟩⟩
  by_cases h : r < 50000
  · refine ⟨(⟨r / 25000, by omega⟩, .inr ⟨(r % 25000) / 2048, by omega⟩), ?_, ?_⟩ <;> simp only [lo, len]
    · omega
    · split <;> omega
  · refine ⟨(⟨(r - 50000) / 25000, by omega⟩, .inl ⟨((r - 50000) % 25000) / 1000, by omega⟩), ?_, ?_⟩ <;> simp only [lo, len] <;> omega

theorem pZ_band (d : Dev nD) (c : Fin τ.nSC) (i : grid1.Coords) (r : Fin 25) (f : Buf (Elt F) (oLoc d)) :
    (pZ d c i (BitVec.ofNat 32 (1000 * r.val)) (k1_off2_inb i r) f : sProp 𝕄)
      = (oLoc d ↦[band d (lo (i 0, .inl r)) (len (i 0, .inl r))]{fullShare} f : sProp 𝕄) := by
  have hs : (oZ i (BitVec.ofNat 32 (1000 * r.val)) (k1_off2_inb i r)).view.set = band d (lo (i 0, .inl r)) (len (i 0, .inl r)) :=
    (View.set_slice_whole _ _).trans (band_eq d _ _ _ (k1_off2_eq i r) _)
  unfold pZ
  rw [hs]

theorem pF_band (d : Dev nD) (c : Fin τ.nSC) (i : grid1.Coords) (r : Fin 12) (f : Buf (Elt F) (oLoc d)) :
    (pF d c i (BitVec.ofNat 32 (2048 * r.val)) (k1_off3_inb i r) f : sProp 𝕄)
      = (oLoc d ↦[band d (lo (i 0, .inr r.castSucc)) (len (i 0, .inr r.castSucc))]{fullShare} f : sProp 𝕄) := by
  have hl : len (i 0, .inr r.castSucc) = 2048 := if_neg (Nat.ne_of_lt r.isLt)
  have hs : (oF i (BitVec.ofNat 32 (2048 * r.val)) (k1_off3_inb i r)).view.set = band d (lo (i 0, .inr r.castSucc)) (len (i 0, .inr r.castSucc)) := by
    rw [hl]; exact (View.set_slice_whole _ _).trans (band_eq d _ _ _ (k1_off3_eq i r) _)
  unfold pF
  rw [hs]

theorem pL_band (d : Dev nD) (c : Fin τ.nSC) (i : grid1.Coords) (f : Buf (Elt F) (oLoc d)) :
    (pL d c i f : sProp 𝕄) = (oLoc d ↦[band d (lo (i 0, .inr 12)) (len (i 0, .inr 12))]{fullShare} f : sProp 𝕄) := by
  have hs : (oL i).view.set = band d (lo (i 0, .inr 12)) (len (i 0, .inr 12)) :=
    (View.set_slice_whole _ _).trans (band_eq d _ _ _ (k1_off5_eq i) _)
  unfold pL
  rw [hs]

theorem zWins_bands (d : Dev nD) (c : Fin τ.nSC) (i : grid1.Coords) (f : Buf (Elt F) (oLoc d)) :
    (zWins d c i f : sProp 𝕄)
      = bigSep Finset.univ fun r : Fin 25 => oLoc d ↦[band d (lo (i 0, .inl r)) (len (i 0, .inl r))]{fullShare} f := by
  rw [bigSep_univ_eq_bigSepL [0, 1, 2, 3, 4, 5, 6, 7, 8, 9, 10, 11, 12, 13, 14, 15, 16, 17, 18, 19, 20, 21, 22, 23, 24] (by decide) (by decide)]
  simp only [← pZ_band d c i]
  rfl

theorem fWins_bands (d : Dev nD) (c : Fin τ.nSC) (i : grid1.Coords) (f : Buf (Elt F) (oLoc d)) :
    (fWins d c i f : sProp 𝕄)
      = bigSep Finset.univ fun r : Fin 13 => oLoc d ↦[band d (lo (i 0, .inr r)) (len (i 0, .inr r))]{fullShare} f := by
  rw [bigSep_univ_eq_bigSepL [0, 1, 2, 3, 4, 5, 6, 7, 8, 9, 10, 11, 12] (by decide) (by decide)]
  have h := pF_band d c i (f := f)
  have h0 : (pF d c i 0#32 (k1_off3_inb i 0) f : sProp 𝕄) = _ := h 0
  have h1 : (pF d c i 2048#32 (k1_off3_inb i 1) f : sProp 𝕄) = _ := h 1
  have h2 : (pF d c i 4096#32 (k1_off3_inb i 2) f : sProp 𝕄) = _ := h 2
  have h3 : (pF d c i 6144#32 (k1_off3_inb i 3) f : sProp 𝕄) = _ := h 3
  have h4 : (pF d c i 8192#32 (k1_off3_inb i 4) f : sProp 𝕄) = _ := h 4
  have h5 : (pF d c i 10240#32 (k1_off3_inb i 5) f : sProp 𝕄) = _ := h 5
  have h6 : (pF d c i 12288#32 (k1_off3_inb i 6) f : sProp 𝕄) = _ := h 6
  have h7 : (pF d c i 14336#32 (k1_off3_inb i 7) f : sProp 𝕄) = _ := h 7
  have h8 : (pF d c i 16384#32 (k1_off3_inb i 8) f : sProp 𝕄) = _ := h 8
  have h9 : (pF d c i 18432#32 (k1_off3_inb i 9) f : sProp 𝕄) = _ := h 9
  have h10 : (pF d c i 20480#32 (k1_off3_inb i 10) f : sProp 𝕄) = _ := h 10
  have h11 : (pF d c i 22528#32 (k1_off3_inb i 11) f : sProp 𝕄) = _ := h 11
  unfold fWins
  rw [h0, h1, h2, h3, h4, h5, h6, h7, h8, h9, h10, h11, pL_band]
  rfl

/-- Sequencer 0 and sequencer 1. -/
abbrev c0 : Fin τ.nSC := ⟨0, by decide⟩
abbrev c1 : Fin τ.nSC := ⟨1, by decide⟩

/-- The whole result is both sequencers' windows of it, at any one contents. -/
theorem deal (d : Dev nD) (f : Buf (Elt F) (oLoc d)) :
    (oLoc d ↦[Finset.univ]{fullShare} f : sProp 𝕄)
      = iprop((zWins d c0 i0 f ∗ fWins d c0 i0 f) ∗ (zWins d c1 i1 f ∗ fWins d c1 i1 f)) := by
  rw [zWins_bands, fWins_bands, zWins_bands, fWins_bands, band_cover d,
    pointsTo_biUnion _ _ (fun t _ t' _ h => band_disjoint d t t' h), bigSep_univ_prod, bigSep_fin_two, bigSep_univ_sum, bigSep_univ_sum]
  rfl

end Cert.Proof.Unpool
-- ==== Proof.Call.lean ====
module

public import proofs.«01_k».proof.Proof.Body
public import proofs.«01_k».proof.Proof.Deal
public import Idealize.SL.BI.BigOpNat

/-!
# The SparseCore call

What the two sequencers are handed at the call and hand back, and the kernel's run on each from exactly that: half of `h`
and of the filling buffer to read, and the sequencer's own windows of the result to write.
-/
@[expose] public section

noncomputable section

namespace Cert.Proof.Unpool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic
open Idealize.ShloMosaic.ValueIdx

variable {F : FTy → Type}

local notation "𝕄" => MT nD τ sig (HIx 1) (Elt F) ℕ UU ℕ

local notation "hW" => (Memref.whole Cert.KernelIdeal.main_arg1_scs : Memref Cert.KernelIdeal.sig Kind.scScalar Space.hbm Cert.KernelIdeal.S50000x128 EltTy.f32)
local notation "zW" => (Memref.whole Cert.KernelIdeal.main_v1_scs : Memref Cert.KernelIdeal.sig Kind.scScalar Space.hbm Cert.KernelIdeal.S1000x128 EltTy.f32)
local notation "oW" => (Memref.whole Cert.KernelIdeal.main_v2_scs : Memref Cert.KernelIdeal.sig Kind.scScalar Space.hbm Cert.KernelIdeal.S100000x128 EltTy.f32)
local notation "aW" => (Memref.whole Cert.KernelIdeal.cc1_scratch0 : Memref Cert.KernelIdeal.sig Kind.scScalar Space.shared Cert.KernelIdeal.S2048x128 EltTy.f32)
local notation "bW" => (Memref.whole Cert.KernelIdeal.cc1_scratch1 : Memref Cert.KernelIdeal.sig Kind.scScalar Space.shared Cert.KernelIdeal.S2048x128 EltTy.f32)
local notation "uW" => (Memref.whole Cert.KernelIdeal.cc1_scratch2 : Memref Cert.KernelIdeal.sig Kind.scScalar Space.shared Cert.KernelIdeal.S1000x128 EltTy.f32)

variable [FloatOps F]

/-- The filling buffer's contents when the call starts: zeros. -/
def fill (d : Dev nD) : Buf (Elt F) (zLoc d) :=
  (broadcastInDim S1000x128 ![] bcast_S_S1000x128 (constant S_ .f32 0x00000000#32) : (⟨S1000x128, .f32⟩ : BufTy).Contents (Elt F))

variable (m : (ℓ : Loc nD τ sig) → Buf (Elt F) ℓ)

/-- One sequencer's part of the call's operands, the result's windows at `f`. -/
@[irreducible] def part (d : Dev nD) (c : Fin τ.nSC) (i : grid1.Coords) (q : PosShare TreeShare) (f : Buf (Elt F) (oLoc d)) : sProp 𝕄 :=
  iprop((hLoc d ↦{q} m (hLoc d)) ∗ (zLoc d ↦{q} fill d) ∗ zWins d c i f ∗ fWins d c i f)

set_option synthInstance.maxHeartbeats 1000000 in
set_option synthInstance.maxSize 8000 in
set_option maxHeartbeats 1000000 in
instance part_storable (d : Dev nD) (c : Fin τ.nSC) (i : grid1.Coords) (q : PosShare TreeShare) (f : Buf (Elt F) (oLoc d)) :
    Storable (upEmb : UEmb _ 𝕄) (part m d c i q f) := by unfold part; infer_instance

/-- The result the call leaves. -/
abbrev out (d : Dev nD) : Buf (Elt F) (oLoc d) := unp d (m (hLoc d)) (fill d)

def P : (K (F := F)).Pay (nD := nD) (Val := Elt F) (Name := ℕ) (U := UU) where
  st := fun _ d c => if c.val = 0 then part m d c0 i0 fullShare.left (m (oLoc d)) else part m d c1 i1 fullShare.right (m (oLoc d))
  dn := fun _ d c => if c.val = 0 then part m d c0 i0 fullShare.left (out m d) else part m d c1 i1 fullShare.right (out m d)
  go := fun _ _ _ _ => iprop(emp)
  td := fun _ _ _ _ => iprop(emp)
  x := fun _ _ => iprop(emp)

instance P_storable : (P (F := F) m).IsStorable where
  st _ d c := by unfold P; dsimp only; split <;> infer_instance
  dn _ d c := by unfold P; dsimp only; split <;> infer_instance
  go _ _ _ _ := by unfold P; infer_instance
  td _ _ _ _ := by unfold P; infer_instance

/-! ## A sequencer's storage: the three scratch buffers, the six semaphores, and the rest -/

abbrev gcell (d : Dev nD) (c : Fin τ.nSC) (k : Fin 6) : GSem nD τ sig := (S d c, .dma (csem (k.val + 4) (by omega)))

omit [FloatOps F] in
theorem gcell_mem (d : Dev nD) (c : Fin τ.nSC) (k : Fin 6) : gcell d c k ∈ ownCells (S d c) :=
  mem_ownCells.mpr ⟨rfl, (show ∀ k : Fin 6, (SemLoc.dma (csem (k.val + 4) (by omega)) : SemLoc sig).isScoped .scScalar = true by decide) k⟩

omit [FloatOps F] in
theorem ownSems0_S (d : Dev nD) (c : Fin τ.nSC) :
    (ownSems0 (S d c) : sProp 𝕄)
      = iprop(cells0 d c ∗ bigSep ((ownCells (S d c)) \ Finset.univ.image (gcell d c)) fun g => semVal g 0) := by
  unfold SparseCore.Cfg.ownSems0
  rw [SparseCore.bigSep_sdiff_split' (t := Finset.univ.image (gcell d c)) (Finset.image_subset_iff.mpr fun k _ => gcell_mem d c k),
    SparseCore.bigSep_image_of_injOn (fun a _ b _ h => by
      have := congrArg (fun g : GSem nD τ sig => g.2) h
      simp only [SemLoc.dma.injEq, Fin.mk.injEq] at this; exact Fin.ext (by omega))]
  rw [show (Finset.univ : Finset (Fin 6)) = {0, 1, 2, 3, 4, 5} by decide,
    SparseCore.bigSep_insert' (by decide), SparseCore.bigSep_insert' (by decide), SparseCore.bigSep_insert' (by decide),
    SparseCore.bigSep_insert' (by decide), SparseCore.bigSep_insert' (by decide), bigSep_singleton]
  rfl

/-- The sequencer's buffers other than the three scratch buffers. -/
abbrev otherRefs (c : Fin τ.nSC) : Finset (DevRef τ sig) :=
  (((ownRefs (τ := τ) (.scScalar c)).erase ((Proc.scScalar c).devRef cc1_scratch0)).erase ((Proc.scScalar c).devRef cc1_scratch1)).erase
    ((Proc.scScalar c).devRef cc1_scratch2)

omit [FloatOps F] in
theorem scratch_ne (c : Fin τ.nSC) (r r' : Ref sig .scScalar) (h : r ≠ r') : (Proc.scScalar c : Proc τ).devRef r ≠ (Proc.scScalar c).devRef r' :=
  fun e => h (Proc.devRef_injective _ e)

omit [FloatOps F] in
theorem ownBufs_S (d : Dev nD) (c : Fin τ.nSC) :
    (ownBufs (S d c) : sProp 𝕄)
      = iprop((∃ f, (S d c).loc cc1_scratch0 ↦{fullShare} f) ∗ (∃ f, (S d c).loc cc1_scratch1 ↦{fullShare} f)
          ∗ (∃ f, (S d c).loc cc1_scratch2 ↦{fullShare} f)
          ∗ bigSep (otherRefs c) fun b => iprop(∃ f, ((d, b) : Loc nD τ sig) ↦{fullShare} f)) := by
  unfold SparseCore.Cfg.ownBufs
  rw [SparseCore.bigSep_erase' ((mem_ownRefs (p := Proc.scScalar c) (b := (Proc.scScalar c).devRef cc1_scratch0)).mpr rfl),
    SparseCore.bigSep_erase' (Finset.mem_erase.mpr ⟨scratch_ne c _ _ (by decide), (mem_ownRefs (p := Proc.scScalar c) (b := (Proc.scScalar c).devRef cc1_scratch1)).mpr rfl⟩),
    SparseCore.bigSep_erase' (Finset.mem_erase.mpr ⟨scratch_ne c _ _ (by decide), Finset.mem_erase.mpr ⟨scratch_ne c _ _ (by decide),
      (mem_ownRefs (p := Proc.scScalar c) (b := (Proc.scScalar c).devRef cc1_scratch2)).mpr rfl⟩⟩)]

omit [FloatOps F] in
theorem pts_h (d : Dev nD) (c : Fin τ.nSC) (q : PosShare TreeShare) (f : Buf (Elt F) (hLoc d)) :
    ((hW).view.loc (S d c) ↦{q} f : sProp 𝕄) = hLoc d ↦{q} f := by
  simp only [Memref.view_whole, View.set_whole]
omit [FloatOps F] in
theorem pts_z (d : Dev nD) (c : Fin τ.nSC) (q : PosShare TreeShare) (f : Buf (Elt F) (zLoc d)) :
    ((zW).view.loc (S d c) ↦{q} f : sProp 𝕄) = zLoc d ↦{q} f := by
  simp only [Memref.view_whole, View.set_whole]
omit [FloatOps F] in
theorem pts_a (d : Dev nD) (c : Fin τ.nSC) (f : Buf (Elt F) ((S d c).loc cc1_scratch0)) :
    ((aW).view.loc (S d c) ↦{fullShare} f : sProp 𝕄) = (S d c).loc cc1_scratch0 ↦{fullShare} f := by
  simp only [Memref.view_whole, View.set_whole]
omit [FloatOps F] in
theorem pts_b (d : Dev nD) (c : Fin τ.nSC) (f : Buf (Elt F) ((S d c).loc cc1_scratch1)) :
    ((bW).view.loc (S d c) ↦{fullShare} f : sProp 𝕄) = (S d c).loc cc1_scratch1 ↦{fullShare} f := by
  simp only [Memref.view_whole, View.set_whole]
omit [FloatOps F] in
theorem pts_u (d : Dev nD) (c : Fin τ.nSC) (f : Buf (Elt F) ((S d c).loc cc1_scratch2)) :
    ((uW).view.loc (S d c) ↦{fullShare} f : sProp 𝕄) = (S d c).loc cc1_scratch2 ↦{fullShare} f := by
  simp only [Memref.view_whole, View.set_whole]

omit [FloatOps F] in
/-- A share of `h` as three read shares and what is left of it. -/
theorem reads (d : Dev nD) (q : PosShare TreeShare) (f : Buf (Elt F) (hLoc d)) :
    (hLoc d ↦{q} f : sProp 𝕄)
      ⊣⊢ iprop((hLoc d ↦{Transfers.shareDrop q 7} f) ∗ (hLoc d ↦{Transfers.shareTokN q 6} f) ∗ (hLoc d ↦{Transfers.shareTokN q 5} f) ∗ (hLoc d ↦{Transfers.shareTokN q 4} f)
          ∗ bigSep (Finset.range 4) fun i => hLoc d ↦{Transfers.shareTokN q i} f) := by
  have h := Transfers.pointsTo_toks_range (ℓ := hLoc d) (S := Finset.univ) (f := f) (Ix := HIx 1) (Name := ℕ) (U := UU) (Lvl := ℕ) q 7
  rw [bigSep_range_succ, bigSep_range_succ, bigSep_range_succ] at h
  exact h

/-! ## The kernel on a sequencer -/

set_option maxHeartbeats 1000000 in
/-- The kernel's run on the sequencer at coordinates `i`, from its part of the operands and its own storage. -/
theorem body_run (hF : (K (F := F)).Facts) (d : Dev nD) (i : grid1.Coords) (hi : i = i0 ∨ i = i1) (q : PosShare TreeShare) (f : Buf (Elt F) (oLoc d))
    (O : CellTallies nD τ sig (HIx 1)) (W : Waits sig (HIx 1)) (hO : ∀ g, O g none = 0) :
    iprop(levAts (K (F := F)).L (K (F := F)).lev ∗ emp ∗ part m d ((i 0).castLE hcore1) i q f
        ∗ scopedBufs (S d ((i 0).castLE hcore1)) ∗ scopedSems0 (S d ((i 0).castLE hcore1)) ∗ owes (S d ((i 0).castLE hcore1)) O W)
      ⊢ wp frame (wpE (defs₀ (F := F)) 𝒱₀ (S d ((i 0).castLE hcore1)) none) Set.univ
          (cc1__unpool_body i hW (Memref.isWhole_whole _) zW (Memref.isWhole_whole _) oW (Memref.isWhole_whole _)
            aW (Memref.isWhole_whole _) bW (Memref.isWhole_whole _) uW (Memref.isWhole_whole _)
            cc1_scratch3 cc1_scratch4 cc1_scratch5 cc1_scratch6 cc1_scratch7 cc1_scratch8)
          fun _ => iprop(part m d ((i 0).castLE hcore1) i q (out m d) ∗ scopedBufs (S d ((i 0).castLE hcore1)) ∗ scopedSems0 (S d ((i 0).castLE hcore1))
            ∗ ∃ W', ⌜∀ p ∈ W', p ∈ W ∨ p.2 = none ∨ p.2 = some (0 : Fin 1)⌝ ∗ owes (S d ((i 0).castLE hcore1)) O W') := by
  unfold part
  rw [(K (F := F)).scopedBufs_S hF d _, SparseCore.Cfg.scopedSems0_S (Val := Elt F) d _, ownSems0_S, ownBufs_S]
  iintro ⟨#Hlv, -, ⟨Hh, Hz, HZ, HFw⟩, ⟨⟨⟨%fa, Ha⟩, ⟨%fb, Hb⟩, ⟨%fu, Hu⟩, Hbufs⟩, Htiles⟩, ⟨⟨HC, Hsems⟩, HtileSems⟩, HO⟩
  ihave Hmw := ((K (F := F)).mayWaits_none (thr := S d ((i 0).castLE hcore1)) hO) $$ Hlv
  ihave Hr := ((reads d q (m (hLoc d))).1) $$ Hh
  icases Hr with ⟨Hd, Hh6, Hh5, Hh4, Hlow⟩
  iapply (wp_wand_r Idealize.ShloMosaic.frame (wpE (defs₀ (F := F)) 𝒱₀ (S d ((i 0).castLE hcore1)) none) Set.univ)
  isplitl [Hmw Hh4 Hh5 Hh6 Hz Ha Hb Hu HZ HFw HC HO]
  · iapply (seq_run d i O W q hi (m (hLoc d)) (fill d) f fa fb fu (by trivial))
    isplitl [Hmw]; · iexact Hmw
    isplitl [Hh4]; · iapply (Entails.of_eq (pts_h (F := F) d ((i 0).castLE hcore1) (Transfers.shareTokN q 4) (m (hLoc d))).symm); iexact Hh4
    isplitl [Hh5]; · iapply (Entails.of_eq (pts_h (F := F) d ((i 0).castLE hcore1) (Transfers.shareTokN q 5) (m (hLoc d))).symm); iexact Hh5
    isplitl [Hh6]; · iapply (Entails.of_eq (pts_h (F := F) d ((i 0).castLE hcore1) (Transfers.shareTokN q 6) (m (hLoc d))).symm); iexact Hh6
    isplitl [Hz]; · iapply (Entails.of_eq (pts_z (F := F) d ((i 0).castLE hcore1) q (fill d)).symm); iexact Hz
    isplitl [Ha]; · iapply (Entails.of_eq (pts_a (F := F) d ((i 0).castLE hcore1) fa).symm); iexact Ha
    isplitl [Hb]; · iapply (Entails.of_eq (pts_b (F := F) d ((i 0).castLE hcore1) fb).symm); iexact Hb
    isplitl [Hu]; · iapply (Entails.of_eq (pts_u (F := F) d ((i 0).castLE hcore1) fu).symm); iexact Hu
    isplitl [HZ]; · iexact HZ
    isplitl [HFw]; · iexact HFw
    isplitl [HC]; · iexact HC
    iexact HO
  iintro %_ ⟨Hh4, Hh5, Hh6, Hz, ⟨%fa', Ha⟩, ⟨%fb', Hb⟩, ⟨%fu', Hu⟩, HZ, HFw, HC, %W', HO⟩
  isplitl [Hd Hh4 Hh5 Hh6 Hlow Hz HZ HFw]
  · isplitl [Hd Hh4 Hh5 Hh6 Hlow]
    · iapply ((reads d q (m (hLoc d))).2)
      isplitl [Hd]; · iexact Hd
      isplitl [Hh6]; · iapply (Entails.of_eq (pts_h (F := F) d ((i 0).castLE hcore1) (Transfers.shareTokN q 6) (m (hLoc d)))); iexact Hh6
      isplitl [Hh5]; · iapply (Entails.of_eq (pts_h (F := F) d ((i 0).castLE hcore1) (Transfers.shareTokN q 5) (m (hLoc d)))); iexact Hh5
      isplitl [Hh4]; · iapply (Entails.of_eq (pts_h (F := F) d ((i 0).castLE hcore1) (Transfers.shareTokN q 4) (m (hLoc d)))); iexact Hh4
      iexact Hlow
    isplitl [Hz]; · iapply (Entails.of_eq (pts_z (F := F) d ((i 0).castLE hcore1) q (fill d))); iexact Hz
    isplitl [HZ] <;> iassumption
  isplitl [Ha Hb Hu Hbufs Htiles]
  · isplitl [Ha Hb Hu Hbufs]
    · isplitl [Ha]; · iexists fa'; iapply (Entails.of_eq (pts_a (F := F) d ((i 0).castLE hcore1) fa')); iexact Ha
      isplitl [Hb]; · iexists fb'; iapply (Entails.of_eq (pts_b (F := F) d ((i 0).castLE hcore1) fb')); iexact Hb
      isplitl [Hu]; · iexists fu'; iapply (Entails.of_eq (pts_u (F := F) d ((i 0).castLE hcore1) fu')); iexact Hu
      iexact Hbufs
    iexact Htiles
  isplitl [HC Hsems HtileSems]
  · isplitl [HC Hsems]
    · isplitl [HC] <;> iassumption
    iexact HtileSems
  iexists W'; isplitr
  · ipureintro; intro p _
    rcases p.2 with _ | r
    · exact .inr (.inl rfl)
    · exact .inr (.inr (congrArg some (Subsingleton.elim r 0)))
  · iexact HO

/-- A sequencer's coordinates in the grid. -/
def at1 (c : Fin (grid1.bound 0)) : grid1.Coords := fun | 0 => c | ⟨_ + 1, h⟩ => absurd h (Nat.not_lt.2 (Nat.le_add_left _ _))

theorem at1_0 (h : 0 < grid1.bound 0) : at1 ⟨0, h⟩ = i0 := funext fun a => match a with | ⟨0, _⟩ => rfl
theorem at1_1 (h : 1 < grid1.bound 0) : at1 ⟨1, h⟩ = i1 := funext fun a => match a with | ⟨0, _⟩ => rfl

theorem defs₀_scalar (c : Fin τ.nSC) :
    defs₀ (F := F) (.scScalar c) 1 ()
      = SparseCore.onCore hcore1 (fun c => cc1__unpool_body (at1 c) hW (Memref.isWhole_whole _) zW (Memref.isWhole_whole _) oW (Memref.isWhole_whole _)
          aW (Memref.isWhole_whole _) bW (Memref.isWhole_whole _) uW (Memref.isWhole_whole _)
          cc1_scratch3 cc1_scratch4 cc1_scratch5 cc1_scratch6 cc1_scratch7 cc1_scratch8) ⟨⟩ c := rfl

theorem st_0 (d : Dev nD) (h : 0 < (K (F := F)).nCore 0) : (P m).st 0 d ⟨0, h⟩ = part m d c0 i0 fullShare.left (m (oLoc d)) := by
  simp [P]
theorem st_1 (d : Dev nD) (h : 1 < (K (F := F)).nCore 0) : (P m).st 0 d ⟨1, h⟩ = part m d c1 i1 fullShare.right (m (oLoc d)) := by
  simp [P]
theorem dn_0 (d : Dev nD) (h : 0 < (K (F := F)).nCore 0) : (P m).dn 0 d ⟨0, h⟩ = part m d c0 i0 fullShare.left (out m d) := by
  simp [P]
theorem dn_1 (d : Dev nD) (h : 1 < (K (F := F)).nCore 0) : (P m).dn 0 d ⟨1, h⟩ = part m d c1 i1 fullShare.right (out m d) := by
  simp [P]

set_option maxRecDepth 20000 in
set_option maxHeartbeats 1000000 in
/-- Each of the two sequencers runs the kernel at its own coordinates. -/
theorem scalarObl : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 1 ())) _
  refine BI.Entails.trans ?_ (Pipeline.wp_liftProg (D (F := F)) (Pipeline.defs_kernel pcfgs defs₀) 𝒱₀ _ Set.univ none _ _)
  have hc : ((K (F := F)).core 0 c).val < grid1.bound 0 := c.isLt
  rw [defs₀_scalar]; simp only [SparseCore.onCore, hc, ↓reduceDIte]
  match c with
  | ⟨0, h⟩ =>
    rw [st_0, dn_0, ← at1_0 h]
    exact body_run m facts d (at1 ⟨_, hc⟩) (.inl (at1_0 h)) fullShare.left (m (oLoc d)) O W hO
  | ⟨1, h⟩ =>
    rw [st_1, dn_1, ← at1_1 h]
    exact body_run m facts d (at1 ⟨_, hc⟩) (.inr (at1_1 h)) fullShare.right (m (oLoc d)) O W hO

end Cert.Proof.Unpool

end
-- ==== Proof.Region.lean ====
module

public import proofs.«01_k».proof.Proof.Setup
public import Idealize.ShloMosaic.Lib.Pipeline.RegionsLoop
public import Idealize.ShloMosaic.Lib.Pipeline.ValueKit.Geometry
public import proofs.«01_k».proof.Proof.Gen.KernelIdeal.Points

/-!
# The TensorCore's copy of `g`

The first call of the program is a pipeline on the TensorCore: at each of four points it fetches 25000 rows of `g`, its body
stores them in the other staging buffer, and they are written back to the same rows of the result.
-/

@[expose] public section

noncomputable section

namespace Cert.Proof.Unpool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic
open Idealize.ShloMosaic.ValueIdx

variable {F : FTy → Type}

local notation "𝕄" => MT nD τ sig (HIx 1) (Elt F) ℕ UU ℕ

variable [FloatOps F]

/-- A whole memref of the TensorCore's held at contents `f`. -/
abbrev pt (d : Dev nD) {sp : Space} {s : Shape} {e : EltTy} (M : Memref sig .tc sp s e) (f : Buf (Elt F) (M.view.loc (T d : Thread nD τ))) : sProp 𝕄 :=
  M.view.loc (T d : Thread nD τ) ↦[M.view.set]{fullShare} f

/-- The body leaves in its second buffer what it found in its first. -/
theorem copy_run (d : Dev nD) (i : grid0.Coords) (M0 : Memref sig .tc .vmem S25000x128 .f32) (h0 : M0.IsWhole) (M1 : Memref sig .tc .vmem S25000x128 .f32) (h1 : M1.IsWhole)
    (f0 : Buf (Elt F) (M0.view.loc (T d : Thread nD τ))) (f1 : Buf (Elt F) (M1.view.loc (T d : Thread nD τ))) (Q : PUnit → sProp 𝕄) :
    iprop(pt d M0 f0 ∗ pt d M1 f1 ∗ (iprop(pt d M0 f0 ∗ owns (T d) M1 fullShare (M0.view.read (Elt F) f0)) -∗ Q ⟨⟩))
      ⊢ wp frame (wpE (defs₀ (F := F)) 𝒱₀ (T d) none) Set.univ (cc0__copy_block i M0 h0 M1 h1) Q := by
  iintro ⟨H0, H1, Hk⟩
  unfold cc0__copy_block
  sl_exec!
  sl_step
  iapply Hk
  isplitl [H0]; · iexact H0
  unfold owns
  iexists _
  isplitr; swap; (· iexact H1)
  ipureintro
  unfold copy_run.sl.H1_1
  funext x
  rw [View.read_writes_cons_hit_of_coords (x := x) (y := x)]
  · show M0.view.read (Elt F) f0 ((Rect.unit (s := S25000x128) ![0, 0] S25000x128.size inb_S25000x128_S25000x128_0_0).emb x) = _
    congr 1
    funext a
    apply Fin.ext
    fin_cases a <;> simp
  · intro a
    fin_cases a <;> simp

/-! ## The proof data -/

/-- No pipeline reads a table. -/
abbrev adm : (p : Fin 1) → (pcfgs (F := F) p).Adm := fun p => (cfgs p).toPCfg_adm

/-- The pairs the TensorCore's waits may have recorded before the SparseCores start: those below every level of the handshake. -/
abbrev low (d : Dev nD) : Set (SemLoc sig × HIx 1) := {p | (K (F := F)).lev (T d, p.1) p.2 ≤ 0}

variable (m : (ℓ : Loc nD τ sig) → Buf (Elt F) ℓ)

abbrev entry (d : Dev nD) (b : Ref sig .tc) : Buf (Elt F) ((d.tc : Thread nD τ).loc b) := m ((d.tc : Thread nD τ).loc b)

/-- The rows of `g` that point `t` copies. -/
abbrev rows (d : Dev nD) (t : Fin cfg0.N) : S25000x128.Idx → Elt F .f32 :=
  ((cfg0.win 0).blk t).view.read (Elt F) (entry m d main_arg0)

def dat (d : Dev nD) : Pipeline.Dat τ (Elt F) (HIx 1) ℕ UU ℕ cfg0 d where
  A w := entry m d (Pipeline.arrRef spec0 w)
  after w t := match w with
    | ⟨0, _⟩ => rows m d t
    | ⟨1, _⟩ => rows m d t
  Φ _ := BI.emp
  q _ := fullShare
  owed _ := (K (F := F)).Otc d 0
  recorded _ := low (F := F) d

def pdats : (p : Fin 1) → (d : Dev nD) → Pipeline.Dat τ (Elt F) (HIx 1) ℕ UU ℕ (Pipeline.pin (pcfgs (F := F)) adm p) d
  | ⟨0, _⟩ => fun d => dat m d

theorem before_in (d : Dev nD) (t : Fin cfg0.N) (x : (cfg0.win 0).block.Idx → Elt F (cfg0.win 0).elt) : (dat m d).before 0 t x = rows m d t :=
  ((dat m d).before_in_eq_fetched 0 rfl (fun _ => rfl) (fun _ _ _ => rfl) (fun _ => rfl) t x).trans rfl

theorem body_obligation (d : Dev nD) : Pipeline.BodyObligation (dat m d) (defs₀ (F := F)) 𝒱₀ (none : HIx 1) Set.univ := fun t => by
  rw [bigSep_W0, bigSep_W0]
  rw [show (dat m d).owesAt none t.succ = (dat m d).owesAt none t.castSucc from rfl]
  iintro ⟨HΦ, Howes, ⟨%x0, H0⟩, ⟨%x1, H1⟩⟩
  rw [before_in]
  unfold owns
  icases H0 with ⟨%f0, %hf0, H0⟩
  icases H1 with ⟨%f1, -, H1⟩
  iapply (copy_run d (grid0.coords t) (st0_0 t) (hstage0_0 ((cfg0.slots t 0).cast nbuf0_0)) (st0_1 t) (hstage0_1 ((cfg0.slots t 1).cast nbuf0_1)) f0 f1)
  isplitl [H0]; · iexact H0
  isplitl [H1]; · iexact H1
  iintro ⟨H0, H1⟩
  isplitl [HΦ]; · iapply (Entails.of_eq (show (dat m d).Φ t.castSucc = (dat m d).Φ t.succ from rfl)); iexact HΦ
  isplitl [Howes]; · iexact Howes
  isplitl [H0]; · iexists f0; isplitr; swap; (· iexact H0); ipureintro; exact hf0
  unfold owns
  icases H1 with ⟨%g, %hg, H1⟩
  iexists g; isplitr; swap; (· iexact H1); ipureintro; exact hg.trans hf0

/-- After the write-backs the second array holds `g`. -/
theorem copied (d : Dev nD) : (dat m d).arrAt 1 cfg0.N = (entry m d main_arg0 : Buf (Elt F) ((T d : Thread nD τ).loc main_arg0)) :=
  (dat m d).arrAt_eq_of_covers 1 (entry m d main_arg0 : Buf (Elt F) ((T d : Thread nD τ).loc main_arg0)) (by decide +kernel) (fun t hf y => rfl)

/-! ## The region -/

/-- What the TensorCore's buffers hold after the copy. -/
def left (d : Dev nD) (b : Ref sig .tc) : Buf (Elt F) ((d.tc : Thread nD τ).loc b) :=
  if h : b = main_v0 then h ▸ (entry m d main_arg0 : Buf (Elt F) ((T d : Thread nD τ).loc main_arg0)) else entry m d b

theorem left_v0 (d : Dev nD) : left m d main_v0 = (entry m d main_arg0 : Buf (Elt F) ((T d : Thread nD τ).loc main_arg0)) := dif_pos rfl
theorem left_ne (d : Dev nD) (b : Ref sig .tc) (h : b ≠ main_v0) : left m d b = entry m d b := dif_neg h

/-- What the TensorCore owes the SparseCores, and the waits it has recorded, around the region. -/
abbrev debt (d : Dev nD) : sProp 𝕄 := Pipeline.owesWithin d ((K (F := F)).Otc d 0) (low (F := F) d)

omit [FloatOps F] in
theorem Otc_none (d : Dev nD) (g : GSem nD τ sig) : (K (F := F)).Otc d 0 g none = 0 := by
  by_contra h
  have := SparseCore.Cfg.lev_of_Otc_pos (K := K (F := F)) (d := d) (n := 0) (g := g) (ι := none) (Nat.pos_of_ne_zero h)
  simp [SparseCore.Cfg.lev] at this

set_option backward.isDefEq.respectTransparency.types false in
def reg : Pipeline.RegionSeg (pcfgs (F := F)) adm (pdats m) (none : HIx 1) defs₀ 𝒱₀ (K (F := F)).L (K (F := F)).lev 0 where
  win := winFacts0.to₀
  block_pos := block_pos0
  stage_whole := stage_whole0
  K := PEmpty
  osem k := k.elim
  ho := Pipeline.OwnSemFacts.none _
  hbody d := (body_obligation m d).loose
  hwaits d := Pipeline.cellsWaits_intro _ _ _ 0 d fun w s t => (K (F := F)).mayWait_none _ (Otc_none d)
  pre d := iprop(unscopedBufs d (entry m d) ∗ debt d)
  post d := iprop(unscopedBufs d (left m d) ∗ debt d)
  X _ := BI.emp
  Y _ := BI.emp
  Z d := Pipeline.unscopedRest (Ix := HIx 1) (Name := ℕ) (U := UU) (Lvl := ℕ) spec0 d (entry m d)
  hentry d := by
    rw [Pipeline.ownSems0_none]
    have hsplit := Pipeline.arrays_of_unscopedBufs (p := 0) (pcfgs (F := F)) adm (pdats m) winFacts0 arr_whole0 d
      ((pdats m 0 d).share_full fun _ => rfl) (entry m d) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (Pipeline.owesWithin_mono d ((K (F := F)).Otc d 0) (Set.subset_union_left (s := low (F := F) d)))
      iexact HO
    isplitr; · iempintro
    iexact Hrest
  hin d := by
    rw [show (pdats m 0 d).Φ 0 = BI.emp from rfl]
    iintro ⟨-, -, -⟩
    iempintro
  hout d := by
    rw [Pipeline.ownSems0_none, show (pdats m 0 d).Φ (Fin.last _) = BI.emp from rfl]
    iintro -
    isplitr; · iempintro
    isplitr; · iempintro
    iapply (Entails.of_eq (scopedRest0_eq d).symm)
    iempintro
  hexit d := by
    have hjoin := Pipeline.unscopedBufs_of_arrays (p := 0) (pcfgs (F := F)) adm (Ix := HIx 1) (Name := ℕ) (U := UU) (Lvl := ℕ) winFacts0 arr_whole0 d
      (pdats m) ((pdats m 0 d).share_full fun _ => rfl) (entry m d) (left m d) ((pdats m 0 d).arrAt · cfg0.N)
      (fun w => by
        fin_cases w
        · exact ((pdats m 0 d).arrAt_in 0 rfl _).trans (left_ne m d main_arg0 (by decide)).symm
        · exact (copied m d).trans (left_v0 m d).symm)
      (fun b hb => left_ne m d b fun h => hb (h ▸ Finset.mem_image.mpr ⟨1, Finset.mem_univ _, rfl⟩))
    iintro ⟨Ha, HO, -, Hrest⟩
    imodintro
    isplitl [Ha Hrest]
    · iapply hjoin; isplitl [Ha] <;> iassumption
    iapply (Pipeline.owesWithin_mono d ((K (F := F)).Otc d 0) (B := (pdats m 0 d).bound none (Fin.last _)) (B' := low (F := F) d) ?_)
    · rintro p (hp | ⟨w, s, rfl⟩)
      · exact hp
      · exact Nat.le_refl 0
    · iexact HO

end Cert.Proof.Unpool
-- ==== Proof.Launch.lean ====
module

public import proofs.«01_k».proof.Proof.Call
public import proofs.«01_k».proof.Proof.Region

/-!
# The program's run

The TensorCore copies `g`, fills the 1000-row buffer with zeros, starts the two sequencers and waits for them. The run ends
with `g` in the first result, `h` over zeros in the second, and the four arguments as they were.
-/
@[expose] public section

noncomputable section

namespace Cert.Proof.Unpool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic
open Idealize.ShloMosaic.ValueIdx

variable {F : FTy → Type}

local notation "𝕄" => MT nD τ sig (HIx 1) (Elt F) ℕ UU ℕ

abbrev EH : Emb UH 𝕄 := embL
/-- Where the copy's pipeline keeps its ghost state. -/
def EP : Emb UP 𝕄 := (Emb.inl : Emb UP (UP × Counters)).trans embR
instance EP_landsIn : (EP (F := F)).LandsIn (upEmb : UEmb _ 𝕄) := by unfold EP embR; infer_instance

variable [FloatOps F]

abbrev pins : Fin 1 → Pipeline.Cfg sig Λ₀ := Pipeline.pin (pcfgs (F := F)) adm

/-- The copy's ghost state on device `d`. -/
abbrev copyGhost (d : Dev nD) : sProp 𝕄 := iprop(Pipeline.cellsGhost (pins (F := F)) EP 0 d ∗ Pipeline.toksInit (pins (F := F)) EP 0 d)

variable (m : (ℓ : Loc nD τ sig) → Buf (Elt F) ℓ) (ρ : Dev nD → PrngReg)

/-! ## The first call: the copy -/

theorem copy_call [∀ e, Nonempty (Elt F e)] (d : Dev nD) (Q : PUnit → sProp 𝕄) :
    iprop((iprop(boundary (SparseCore.T d) ∗ (unscopedBufs d (left m d) ∗ debt d)) -∗ Q ⟨⟩)
        ∗ boundary (SparseCore.T d) ∗ (unscopedBufs d (entry m d) ∗ debt d) ∗ levAts (K (F := F)).L (K (F := F)).lev ∗ copyGhost d)
      ⊢ wp frame (wpE ((K (F := F)).defs (D (F := F))) 𝒱 (SparseCore.T d) none) Set.univ
          (Prog.lift (.customCall (SparseCore.inner (Pipeline.entry 0)) ())) Q := by
  have h := Pipeline.RegionSeg.wp (pcfgs (F := F)) adm (pdats m) none cellOf_inj (EP (F := F)) defs₀ 𝒱₀ (K (F := F)).L (K (F := F)).lev
    (reg m) d none (fun u hu => nomatch hu) (.ret (α := PUnit)) Q
  have h2 := (K (F := F)).wp_liftProg (Name := ℕ) (U := UU) (D (F := F)) 𝒱 (SparseCore.T d) Set.univ none (.op (.customCall (Pipeline.entry 0) ()) (.ret (α := PUnit))) Q
  refine BI.Entails.trans ?_ h2
  refine BI.Entails.trans ?_ h
  show (iprop((iprop(boundary (SparseCore.T d) ∗ (unscopedBufs d (left m d) ∗ debt d)) -∗ Q ⟨⟩)
        ∗ boundary (SparseCore.T d) ∗ (unscopedBufs d (entry m d) ∗ debt d) ∗ levAts (K (F := F)).L (K (F := F)).lev ∗ copyGhost d) : sProp 𝕄)
    ⊢ (iprop((iprop(boundary (SparseCore.T d) ∗ (unscopedBufs d (left m d) ∗ debt d))
          -∗ wp frame (wpE (D (F := F)) 𝒱 (SparseCore.T d) none) Set.univ (.ret (α := PUnit) ⟨⟩) Q)
        ∗ boundary (SparseCore.T d) ∗ (unscopedBufs d (entry m d) ∗ debt d) ∗ levAts (K (F := F)).L (K (F := F)).lev ∗ copyGhost d) : sProp 𝕄)
  iintro ⟨Hk, Hrest⟩
  isplitl [Hk]
  · iintro H
    rw [wp_ret]; imodintro
    iapply Hk; iexact H
  iexact Hrest

/-! ## The launch element -/

def u₀ : UU := (initOf (K (F := F)).hsCells (K (F := F)).hsToks,
  (initOf (Pipeline.cells (pins (F := F)) cellOf_inj) (Pipeline.launchToks (pins (F := F)) cellOf_inj), 1))

omit [FloatOps F] in
theorem bigSep_emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => copyGhost d)
        ∗ bigSep Finset.univ fun thr : Thread nD τ => bigSep Finset.univ fun q : Fin 1 => (P m).x q thr) := by
  unfold u₀
  iintro Hu
  ihave H := (ownU_pair (initOf (K (F := F)).hsCells (K (F := F)).hsToks)
    ((initOf (Pipeline.cells (pins (F := F)) cellOf_inj) (Pipeline.launchToks (pins (F := F)) cellOf_inj), 1) : UP × Counters)) $$ Hu
  icases H with ⟨HH, HP⟩
  ihave HP2 := (own_pair_emb (embR : Emb (UP × Counters) 𝕄) (initOf (Pipeline.cells (pins (F := F)) cellOf_inj) (Pipeline.launchToks (pins (F := F)) cellOf_inj)) 1) $$ HP
  icases HP2 with ⟨HP, -⟩
  ihave HP := (Entails.of_eq (show BI.own (((Emb.inl : Emb UP (UP × Counters)).trans (embR : Emb (UP × Counters) 𝕄)) (initOf (Pipeline.cells (pins (F := F)) cellOf_inj) (Pipeline.launchToks (pins (F := F)) cellOf_inj)))
    = BI.own (EP (F := F) (initOf (Pipeline.cells (pins (F := F)) cellOf_inj) (Pipeline.launchToks (pins (F := F)) cellOf_inj))) from rfl)) $$ HP
  imod (Pipeline.fund_ghost (pins (F := F)) (EP (F := F)) cellOf_inj) $$ HP with ⟨HG, HT⟩
  imodintro
  isplitl [HH]; · iexact HH
  isplitl [HG HT]
  · unfold copyGhost
    rw [bigSep_sep']
    isplitl [HG]
    · iapply (Entails.of_eq (bigSep_congr (s := (Finset.univ : Finset (Dev nD))) (Φ := fun d => bigSep Finset.univ fun p : Fin 1 => Pipeline.cellsGhost (pins (F := F)) (EP (F := F)) p d) fun d _ => bigSep_univ_of_subsingleton (0 : Fin 1))); iexact HG
    · iapply (Entails.of_eq (bigSep_congr (s := (Finset.univ : Finset (Dev nD))) (Φ := fun d => bigSep Finset.univ fun p : Fin 1 => Pipeline.toksInit (pins (F := F)) (EP (F := F)) p d) fun d _ => bigSep_univ_of_subsingleton (0 : Fin 1))); iexact HT
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emps]
  iempintro

/-! ## The TensorCore's program -/

theorem buffers (d : Dev nD) (W : (b : Ref sig .tc) → Buf (Elt F) ((d.tc : Thread nD τ).loc b)) :
    (unscopedBufs d W : sProp 𝕄) = iprop(((SparseCore.T d).loc main_arg0 ↦{fullShare} W main_arg0) ∗ ((SparseCore.T d).loc main_v0 ↦{fullShare} W main_v0)
      ∗ (hLoc d ↦{fullShare} W main_arg1) ∗ ((SparseCore.T d).loc main_arg2 ↦{fullShare} W main_arg2) ∗ ((SparseCore.T d).loc main_arg3 ↦{fullShare} W main_arg3)
      ∗ ((SparseCore.T d).loc main_cst ↦{fullShare} W main_cst) ∗ (zLoc d ↦{fullShare} W main_v1) ∗ (oLoc d ↦{fullShare} W main_v2)) := by
  unfold unscopedBufs
  rw [show (Finset.univ.filter fun b : Ref sig .tc => ¬ b.isScoped) = {main_arg0, main_v0, main_arg1, main_arg2, main_arg3, main_cst, main_v1, main_v2} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

abbrev cst' : DevRef τ sig := Proc.devRef .tc (main_cst : Ref sig .tc)
abbrev z' : DevRef τ sig := Proc.devRef .tc (main_v1 : Ref sig .tc)
abbrev opZero : HloOp τ sig (Elt F) := StableHlo.nullary main_cst (constant S_ .f32 0x00000000#32)
abbrev opFill : HloOp τ sig (Elt F) := StableHlo.unary main_cst main_v1
  (broadcastInDim S1000x128 ![] bcast_S_S1000x128 : (⟨S_, .f32⟩ : BufTy).Contents (Elt F) → (⟨S1000x128, .f32⟩ : BufTy).Contents (Elt F))

/-- The two buffers the host operations touch. -/
abbrev S2 : Finset (DevRef τ sig) := {cst', z'}

omit [FloatOps F] in
theorem held_S2 (d : Dev nD) (W : Valuation τ sig (Elt F)) :
    (held (SparseCore.T d) S2 W : sProp 𝕄) = iprop(((SparseCore.T d).loc main_cst ↦{fullShare} W cst') ∗ (zLoc d ↦{fullShare} W z')) := by
  unfold held S2
  rw [SparseCore.bigSep_insert' (by decide), bigSep_singleton]

/-- The launch valuation, and what the two operations leave in the filling buffer. -/
def V0 (d : Dev nD) : Valuation τ sig (Elt F) := fun b => m (d, b)
theorem filled (d : Dev nD) : (opFill (F := F)).result ((opZero (F := F)).result (V0 m d)) z' = fill d :=
  (StableHlo.unary_result _ _ _ _ _ _).trans (congrArg _ (StableHlo.nullary_result _ _ _ _))

theorem hZero : (opZero (F := F)).bufs ⊆ S2 := show ({cst'} : Finset (DevRef τ sig)) ⊆ S2 by decide
theorem hFill : (opFill (F := F)).bufs ⊆ S2 := show ({cst', z'} : Finset (DevRef τ sig)) ⊆ S2 by decide

/-- The call's operands, dealt to the two sequencers, and back. -/
theorem parts (d : Dev nD) (f : Buf (Elt F) (oLoc d)) :
    iprop((hLoc d ↦{fullShare} m (hLoc d)) ∗ (zLoc d ↦{fullShare} fill d) ∗ (oLoc d ↦{fullShare} f))
      ⊣⊢ (iprop(part m d c0 i0 fullShare.left f ∗ part m d c1 i1 fullShare.right f) : sProp 𝕄) := by
  have hh : (hLoc d ↦{fullShare} m (hLoc d) : sProp 𝕄) ⊣⊢ iprop((hLoc d ↦{fullShare.left} m (hLoc d)) ∗ (hLoc d ↦{fullShare.right} m (hLoc d))) :=
    pointsTo_share (PosShare.mem_left_op_right _)
  have hz : (zLoc d ↦{fullShare} fill d : sProp 𝕄) ⊣⊢ iprop((zLoc d ↦{fullShare.left} fill d) ∗ (zLoc d ↦{fullShare.right} fill d)) :=
    pointsTo_share (PosShare.mem_left_op_right _)
  unfold part
  rw [show (oLoc d ↦{fullShare} f : sProp 𝕄) = _ from deal d f]
  constructor
  · iintro ⟨Hh, Hz, ⟨Z0, F0⟩, Z1, F1⟩
    ihave Hh2 := hh.1 $$ Hh
    icases Hh2 with ⟨Ha, Hb⟩
    ihave Hz2 := hz.1 $$ Hz
    icases Hz2 with ⟨Hc, Hd⟩
    isplitl [Ha Hc Z0 F0]
    · isplitl [Ha]; · iexact Ha
      isplitl [Hc]; · iexact Hc
      isplitl [Z0]; · iexact Z0
      iexact F0
    isplitl [Hb]; · iexact Hb
    isplitl [Hd]; · iexact Hd
    isplitl [Z1]; · iexact Z1
    iexact F1
  · iintro ⟨⟨Ha, Hc, Z0, F0⟩, Hb, Hd, Z1, F1⟩
    isplitl [Ha Hb]; · iapply hh.2; isplitl [Ha] <;> iassumption
    isplitl [Hc Hd]; · iapply hz.2; isplitl [Hc] <;> iassumption
    isplitl [Z0 F0]
    · isplitl [Z0]; · iexact Z0
      iexact F0
    isplitl [Z1]; · iexact Z1
    iexact F1

theorem st_eq (d : Dev nD) : (bigSep Finset.univ fun c : Fin ((K (F := F)).nCore 0) => (P m).st 0 d c)
    = iprop(part m d c0 i0 fullShare.left (m (oLoc d)) ∗ part m d c1 i1 fullShare.right (m (oLoc d))) :=
  (BI.bigSep_fin_two (fun c : Fin 2 => (P m).st 0 d c)).trans (congrArg₂ _ (st_0 m d (show 0 < 2 by decide)) (st_1 m d (show 1 < 2 by decide)))
theorem dn_eq (d : Dev nD) : (bigSep Finset.univ fun c : Fin ((K (F := F)).nCore 0) => (P m).dn 0 d c)
    = iprop(part m d c0 i0 fullShare.left (out m d) ∗ part m d c1 i1 fullShare.right (out m d)) :=
  (BI.bigSep_fin_two (fun c : Fin 2 => (P m).dn 0 d c)).trans (congrArg₂ _ (dn_0 m d (show 0 < 2 by decide)) (dn_1 m d (show 1 < 2 by decide)))

/-- The first result's contents: `g`'s. -/
abbrev gOut (d : Dev nD) : Buf (Elt F) ((SparseCore.T d : Thread nD τ).loc main_v0) := (m ((SparseCore.T d).loc main_arg0) : Buf (Elt F) ((SparseCore.T d : Thread nD τ).loc main_arg0))

/-- What the program leaves for the claim. -/
abbrev FIN (d : Dev nD) : sProp 𝕄 :=
  iprop(((SparseCore.T d).loc main_v0 ↦{fullShare} gOut m d) ∗ (oLoc d ↦{fullShare} out m d)
    ∗ ((SparseCore.T d).loc main_arg0 ↦{fullShare} m ((SparseCore.T d).loc main_arg0)) ∗ (hLoc d ↦{fullShare} m (hLoc d))
    ∗ ((SparseCore.T d).loc main_arg2 ↦{fullShare} m ((SparseCore.T d).loc main_arg2)) ∗ ((SparseCore.T d).loc main_arg3 ↦{fullShare} m ((SparseCore.T d).loc main_arg3)))

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ copyGhost d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show ((K (F := F)).tcSt EH d 0 : sProp 𝕄) = _ from by unfold SparseCore.Cfg.tcSt; rfl]
  simp only [main, wp_bind, wp_pure]
  iintro ⟨#Hctx, ⟨⟨%W, %hW, HO⟩, Hst⟩, ⟨Hb, Hub, Hts, -⟩, HG⟩
  ihave Hlv := ((SparseCore.Cfg.ctx_levAts (K := K (F := F)) (EH := EH) (P := P m) κ)) $$ Hctx
  iapply (copy_call m d _)
  isplitr [Hb Hub HO HG]
  swap
  · isplitl [Hb]; · iexact Hb
    isplitl [Hub HO]
    · isplitl [Hub]; · iexact Hub
      iexists W; isplitr; swap; (· iexact HO)
      ipureintro; intro p hp; exact hW p hp
    isplitr [HG]; · iexact Hlv
    iexact HG
  iintro ⟨Hb, Hub, %W1, %hW1, HO⟩
  ihave Hbs := (Entails.of_eq (buffers d (left m d))) $$ Hub
  rw [left_v0, left_ne m d main_arg0 (by decide), left_ne m d main_arg1 (by decide), left_ne m d main_arg2 (by decide), left_ne m d main_arg3 (by decide),
    left_ne m d main_cst (by decide), left_ne m d main_v1 (by decide), left_ne m d main_v2 (by decide)]
  icases Hbs with ⟨Hg, Hv0, Hh, Ha2, Ha3, Hc, Hz, Ho⟩
  iapply (wp_hlo_within 𝒱 (SparseCore.T d) none Set.univ (op := opZero) (S := S2) hZero (V := V0 m d)) $$ [Hb Hc Hz]
  · isplitl [Hb]; · iexact Hb
    rw [held_S2]
    isplitl [Hc]; · iexact Hc
    iexact Hz
  iintro Hbh
  rw [wp_ret]; imodintro
  iapply (wp_hlo_within 𝒱 (SparseCore.T d) none Set.univ (op := opFill) (S := S2) hFill (V := (opZero (F := F)).result (V0 m d))) $$ [Hbh]
  · iexact Hbh
  iintro ⟨Hb, Hheld⟩
  rw [wp_ret]; imodintro
  ihave Hheld2 := (Entails.of_eq (held_S2 (F := F) d _)) $$ Hheld
  rw [filled]
  icases Hheld2 with ⟨Hc, Hz⟩
  ihave Hp := ((parts m d (m (oLoc d))).1) $$ [Hh Hz Ho]
  · isplitl [Hh]; · iexact Hh
    isplitl [Hz]; · iexact Hz
    iexact Ho
  iapply ((K (F := F)).wp_run (D (F := F)) 𝒱 (EH := EH) (P := P m) κ d 0)
  isplitr; · iexact Hctx
  isplitl [HO Hst]
  · unfold SparseCore.Cfg.tcSt
    isplitl [HO]
    · iexists W1; isplitr; swap; (· iexact HO)
      ipureintro; intro p hp; exact hW1 hp
    iexact Hst
  isplitl [Hp]
  · rw [st_eq]; iexact Hp
  iintro ⟨Hst, Hdn⟩
  ihave Hdn' := (Entails.of_eq (dn_eq m d)) $$ Hdn
  ihave Hdn2 := ((parts m d (out m d)).2) $$ Hdn'
  icases Hdn2 with ⟨Hh, Hz, Ho⟩
  imodintro
  isplitl [Hst]; · iexact Hst
  isplitr [Hb Hts]
  · isplitl [Hv0]; · iexact Hv0
    isplitl [Ho]; · iexact Ho
    isplitl [Hg]; · iexact Hg
    isplitl [Hh]; · iexact Hh
    isplitl [Ha2]; · iexact Ha2
    iexact Ha3
  isplitl [Hb] <;> iassumption

/-! ## What the run leaves -/

def fq (d : Dev nD) (s' : Phys nD τ sig (Elt F)) : Prop :=
  s'.mem.mem ((SparseCore.T d).loc main_v0) = gOut m d ∧ s'.mem.mem (oLoc d) = out m d
    ∧ s'.mem.mem ((SparseCore.T d).loc main_arg0) = m ((SparseCore.T d).loc main_arg0) ∧ s'.mem.mem (hLoc d) = m (hLoc d)
    ∧ s'.mem.mem ((SparseCore.T d).loc main_arg2) = m ((SparseCore.T d).loc main_arg2) ∧ s'.mem.mem ((SparseCore.T d).loc main_arg3) = m ((SparseCore.T d).loc main_arg3)

omit [FloatOps F] in
theorem reads_back (s' : Phys nD τ sig (Elt F)) (ℓ : Loc nD τ sig) (f : Buf (Elt F) ℓ) :
    (iprop(SI s' ∗ (ℓ ↦{fullShare} f)) : sProp 𝕄) ⊢ iprop(SI s' ∗ ⌜s'.mem.mem ℓ = f⌝) := by
  iintro H
  ihave H := (persistent_entails_right (SI_pointsTo_agree (st := s') (ℓ := ℓ) (I := Finset.univ) (q := fullShare) (f := f))) $$ H
  icases H with ⟨%h, HSI, -⟩
  isplitl [HSI]; · iexact HSI
  ipureintro; exact funext fun i => h i (Finset.mem_univ i)

theorem hfin (d : Dev nD) (s' : Phys nD τ sig (Elt F)) : iprop(FIN m d ∗ SI s') ⊢ (⌜fq m d s'⌝ : sProp 𝕄) := by
  iintro ⟨⟨H0, H1, H2, H3, H4, H5⟩, HSI⟩
  ihave H := (reads_back s' _ _) $$ [HSI H0]; · isplitl [HSI] <;> iassumption
  icases H with ⟨HSI, %h0⟩
  ihave H := (reads_back s' _ _) $$ [HSI H1]; · isplitl [HSI] <;> iassumption
  icases H with ⟨HSI, %h1⟩
  ihave H := (reads_back s' _ _) $$ [HSI H2]; · isplitl [HSI] <;> iassumption
  icases H with ⟨HSI, %h2⟩
  ihave H := (reads_back s' _ _) $$ [HSI H3]; · isplitl [HSI] <;> iassumption
  icases H with ⟨HSI, %h3⟩
  ihave H := (reads_back s' _ _) $$ [HSI H4]; · isplitl [HSI] <;> iassumption
  icases H with ⟨HSI, %h4⟩
  ihave H := (reads_back s' _ _) $$ [HSI H5]; · isplitl [HSI] <;> iassumption
  icases H with ⟨HSI, %h5⟩
  ipureintro; exact ⟨h0, h1, h2, h3, h4, h5⟩

def QC : PUnit × MemSt nD τ sig (Elt F) → Prop := fun r =>
  (∀ d : Dev nD, r.2.mem ((SparseCore.T d).loc main_v0) = gOut m d ∧ r.2.mem (oLoc d) = out m d
    ∧ r.2.mem ((SparseCore.T d).loc main_arg0) = m ((SparseCore.T d).loc main_arg0) ∧ r.2.mem (hLoc d) = m (hLoc d)
    ∧ r.2.mem ((SparseCore.T d).loc main_arg2) = m ((SparseCore.T d).loc main_arg2) ∧ r.2.mem ((SparseCore.T d).loc main_arg3) = m ((SparseCore.T d).loc main_arg3)) ∧ r.2.sem = fun _ => 0

/-- Every run ends, with the two results and the arguments as `QC` says and every semaphore at zero. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q _ => match q with | 0 => scalarObl m)
    (fun q hq => match q with | 0 => nomatch hq)
    (fun q hq => match q with | 0 => nomatch hq)
    m ρ main (fun d => copyGhost d) (FIN m) (u₀ (F := F)) (sep_elim_left.trans (hu₀ m)) (hmain m ρ) (fq m) (hfin m) (QC m) (fun _ h hz => ⟨h, hz⟩)

end Cert.Proof.Unpool

end
-- ==== Proof.Value.lean ====
module

public import proofs.«01_k».proof.Proof.Launch
public import proofs.«01_k».proof.Proof.Gen.ReferenceIdeal.Run
public import proofs.«01_k».proof.Proof.Gen.Pre_front
public import Idealize.ShloMosaic.Lib.Routing.OpsPair
public import Idealize.ShloMosaic.Lib.Routing.OpsSet
public import Idealize.ShloMosaic.Lib.ReduceAll

/-!
# The two results agree

The reference writes row `k` of `h` over row `idx k` of a table of zeros. Where the indices count up from zero that table's
row `r` is `h`'s row `r` for `r < 50000` and stays zero below, which is what the kernel leaves.
-/
@[expose] public section

noncomputable section

namespace Cert.Proof.Unpool

open Idealize.ShloMosaic Idealize.ShloMosaic.TcCoe Idealize.ShloMosaic.ValueIdx Idealize.ShloMosaic.Routing

/-- The reference's dimension numbers: one index word names a row, and the update is a row. -/
abbrev byRow := Cert.ReferenceIdeal.scatter_S100000x128_S50000x1_S50000x128_1_0_0_1

/-- Row `k` of the update lands on the row its index word names, every element in its own column. -/
theorem lands_rows (idx : IVec Cert.ReferenceIdeal.S50000x1 32) (k : Fin 50000) (l : Fin 128) (r : Fin 100000) (c : Fin 128) :
    (byRow).resultIdx? (ix2 k l) idx = some (ix2 r c) ↔ (idx (ix2 k (0 : Fin 1))).toInt = (r.val : Int) ∧ l = c := by
  have hw0 : (byRow).window (ix2 k l) 0 = 0 := rfl
  have hw1 : (byRow).window (ix2 k l) 1 = l.val := rfl
  have hs1 : (byRow).start (ix2 k l) idx 1 = 0 := rfl
  have hs0 : (byRow).start (ix2 k l) idx 0 = (idx (ix2 k (0 : Fin 1))).toInt := by
    refine congrArg (fun x => (idx x).toInt) (?_ : (byRow).siIdx (ix2 k l) _ = ix2 k (0 : Fin 1))
    funext a
    fin_cases a <;> exact Fin.ext rfl
  rw [Fin.ext_iff]
  refine (resultIdx?_ix2 (R := 100000) (C := 128) (byRow) (ix2 k l) idx r c).trans ?_
  rw [hw0, hw1, hs0, hs1]
  omega

/-- A table whose first 50000 rows are written with the rows of `u`, row `k` by update `k`: the rows of `u`, then the table's own. -/
theorem rows_set {α : Type} (x : Cert.ReferenceIdeal.S100000x128.Idx → α) (idx : IVec Cert.ReferenceIdeal.S50000x1 32)
    (u : Cert.ReferenceIdeal.S50000x128.Idx → α) (hidx : ∀ k : Fin 50000, (idx (ix2 k (0 : Fin 1))).toInt = (k.val : Int)) (r : Fin 100000) (c : Fin 128) :
    Host.scatter (byRow) (fun _ b => b) x idx u (ix2 r c)
      = if h : r.val < 50000 then u (ix2 (⟨r.val, h⟩ : Fin 50000) c) else x (ix2 r c) := by
  have lands : ∀ j : Cert.ReferenceIdeal.S50000x128.Idx, (byRow).resultIdx? j idx = some (ix2 r c) → (j 0).val = r.val ∧ j 1 = c := fun j hj => by
    have := (lands_rows idx (j 0) (j 1) r c).1 ((congrArg (fun t => (byRow).resultIdx? t idx) (eq_ix2 j).symm).trans hj)
    rw [hidx (j 0)] at this
    exact ⟨by have := this.1; omega, this.2⟩
  by_cases h : r.val < 50000
  · rw [dif_pos h]
    refine scatter_set_hit (byRow) x idx u _ _ (fun j hj => ?_) (ix2 (⟨r.val, h⟩ : Fin 50000) c) ((lands_rows idx _ _ r c).2 ⟨hidx _, rfl⟩)
    rw [eq_ix2 j]
    congr 2
    · exact Fin.ext (lands j hj).1
    · exact (lands j hj).2
  · rw [dif_neg h]
    exact scatter_set_miss (byRow) x idx u _ fun j hj => h ((lands j hj).1 ▸ (j 0).isLt)

variable {F : FTy → Type} [FloatOps F]

/-- What the precondition says of the indices: entry `k` holds the word of `k`. -/
theorem front_at (a0 : FVec F Cert.Pre_front.S100000x128 .f32) (a1 a2 : FVec F Cert.Pre_front.S50000x128 .f32) (a3 : IVec Cert.Pre_front.S50000 32)
    (h : Cert.Pre_front.fn (F := F) a0 a1 a2 a3 = fun _ => 1#1) (k : Fin 50000) : a3 (ix1 k) = BitVec.ofNat 32 k.val := by
  dsimp only [Cert.Pre_front.fn] at h
  have e := Host.reduce_andi_all _ _ _ _ _ (congrFun h ix0) (ix1 k)
  rw [show cmpi .eq a3 (iotaInDim Cert.Pre_front.S50000 32 0) (ix1 k) = BitVec.ofBool (a3 (ix1 k) == BitVec.ofNat 32 k.val) from rfl] at e
  by_contra hne
  rw [beq_eq_false_iff_ne.2 hne] at e
  exact absurd e (by decide)

/-- The index words as the reference passes them on: a negative word would be taken from the end; none is. -/
abbrev words (a3 : IVec Cert.ReferenceIdeal.S50000 32) : IVec Cert.ReferenceIdeal.S50000x1 32 :=
  broadcastInDim Cert.ReferenceIdeal.S50000x1 ![0] Cert.ReferenceIdeal.Gen.bcast_S50000_S50000x1_0
    (select (cmpi .slt a3 (broadcastInDim Cert.ReferenceIdeal.S50000 ![] Cert.ReferenceIdeal.Gen.bcast_S_S50000 (constantI Cert.ReferenceIdeal.S_ 32 0#32)))
      (addi a3 (broadcastInDim Cert.ReferenceIdeal.S50000 ![] Cert.ReferenceIdeal.Gen.bcast_S_S50000 (constantI Cert.ReferenceIdeal.S_ 32 100000#32))) a3)

theorem words_at (a3 : IVec Cert.ReferenceIdeal.S50000 32) (k : Fin 50000) (h : a3 (ix1 k) = BitVec.ofNat 32 k.val) :
    (words a3 (ix2 k (0 : Fin 1))).toInt = (k.val : Int) := by
  have e : words a3 (ix2 k (0 : Fin 1)) = Scalar.select (IntOp.cmpi .slt (a3 (ix1 k)) 0#32) (IntOp.addi (a3 (ix1 k)) 100000#32) (a3 (ix1 k)) := by
    refine congrArg (fun j => Scalar.select (IntOp.cmpi .slt (a3 j) 0#32) (IntOp.addi (a3 j) 100000#32) (a3 j)) (?_ : _ = ix1 k)
    funext a
    fin_cases a
    exact Fin.ext rfl
  have hk := k.isLt
  rw [e, h, wrap_of_lt _ _ (by rw [BitVec.toNat_ofNat]; omega), StableHlo.Predicate.toInt_ofNat_small _ (by omega)]

/-- **The reference's second result is the kernel's**: rows 0 … 49999 those of `h`, the others zero. -/
theorem table_eq (d : Dev Cert.KernelIdeal.nD) (a3 : IVec Cert.ReferenceIdeal.S50000 32) (fh : Buf (Elt F) (hLoc d))
    (hi : ∀ k : Fin 50000, a3 (ix1 k) = BitVec.ofNat 32 k.val) :
    Host.scatter (byRow) (fun _ b => b)
        (broadcastInDim Cert.ReferenceIdeal.S100000x128 ![] Cert.ReferenceIdeal.Gen.bcast_S_S100000x128 (constant (F := F) Cert.ReferenceIdeal.S_ .f32 0x00000000#32))
        (words a3) fh
      = unp d fh (fill d) := by
  funext x
  rw [eq_ix2 (n0 := 100000) (n1 := 128) x]
  exact rows_set _ (words a3) fh (fun k => words_at a3 k (hi k)) (x 0) (x 1)

end Cert.Proof.Unpool

end
-- ==== Proof.lean ====
/- The certificate's claims, from two runs: the kernel's (`run_main`, Proof/Launch.lean), proved once over any float values,
   and the reference's, read off its operations. Proof/Value.lean shows the two second results equal where the indices
   count up from zero. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_front
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel's run over any float values, read at the arguments and the semaphores alone. -/
theorem kept {F : FTy → Type} [FloatOps F] [∀ e, Nonempty (Elt F e)]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (Cert.KernelIdeal.threads (F := F)) ⟨m, fun _ => 0, ρ⟩ fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0 :=
  (θ_run _ _ _).mono (fun _ h => ⟨fun c => ⟨(h.1 c).2.2.1, (h.1 c).2.2.2.1, (h.1 c).2.2.2.2.1, (h.1 c).2.2.2.2.2⟩, h.2⟩)
    (Unpool.run_main m ρ)

/-- The printed program and the one read at ideal values have the same text: their body tables agree label by label … -/
theorem tables_eq {F : FTy → Type} [FloatOps F] : Cert.Kernel.defs₀ (F := F) = Cert.KernelIdeal.defs₀ (F := F) := by
  funext p ℓ a
  rcases p with _ | _ | _ <;> rcases ℓ with ⟨_ | _ | _, h⟩ <;> rfl

/-- … and so do the whole programs' tables. -/
theorem defs_eq {F : FTy → Type} [FloatOps F] : Cert.Kernel.defs (F := F) = Cert.KernelIdeal.defs (F := F) := by
  unfold Cert.Kernel.defs Cert.KernelIdeal.defs
  rw [tables_eq]
  rfl

/-- The kernel at the machine's float words. -/
theorem frame_kernel : Cert.quiescent_Kernel := fun m ρ _ => by
  rw [defs_eq]
  exact kept (F := Bits) m ρ

/-- The kernel over ideal values. -/
theorem frame_kernelIdeal : Cert.quiescent_KernelIdeal := fun m ρ _ => kept (F := Ideal) m ρ

/-- The reference: its run read at the arguments; it declares no semaphore. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- Both results: the first is the argument `g` on both sides, the second `h`'s rows and then zeros. -/
theorem algebraic : Cert.algebraic_KernelIdeal_ReferenceIdeal_pre_front := by
  intro m ρ m' ρ' hpre hagree
  refine ⟨fun c => Unpool.gOut m c, fun c => Unpool.out m c, ?_, ?_⟩
  · exact (θ_run Cert.KernelIdeal.defs _ _).mono (fun _ h c => h.1 c) (Unpool.run_main (F := Ideal) m ρ)
  · refine (θ_run Cert.ReferenceIdeal.defs _ _).mono (fun _ h c => ⟨(h c).1.trans (hagree c).1, (h c).2.1.trans ?_, (h c).2.2⟩)
      (Cert.ReferenceIdeal.Value.run (F := Ideal) m' ρ')
    rw [(hagree c).2.1, (hagree c).2.2.2]
    exact Unpool.table_eq (F := Ideal) c _ _ fun k => Unpool.front_at _ _ _ _ (hpre c) k

theorem claim : Cert.Claim := ⟨Cert.Kernel.Gen.facts, Cert.KernelIdeal.Gen.facts, Cert.ReferenceIdeal.Gen.facts, Cert.Pre_front.Gen.facts,
  frame_kernel, frame_kernelIdeal, fun m ρ _ => frame_kernelIdeal m ρ trivial, frame_reference, fun m ρ _ => frame_reference m ρ trivial,
  trivial, algebraic⟩

end Cert.Proof

end
